-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_temp" .f32 0x41649249#32 ((134217728 / 9395241 : ℝ) : EReal)

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S1024x64 : Shape := ⟨2, ![1024, 64]⟩
abbrev S100000x64 : Shape := ⟨2, ![100000, 64]⟩
abbrev S100000 : Shape := ⟨1, ![100000]⟩
abbrev S64x100000 : Shape := ⟨2, ![64, 100000]⟩
abbrev S1024x100000 : Shape := ⟨2, ![1024, 100000]⟩
abbrev S1024x102 : Shape := ⟨2, ![1024, 102]⟩
abbrev S1024x1 : Shape := ⟨2, ![1024, 1]⟩

class Facts : Prop where
  transposes_S100000x64_S64x100000_1_0 : S100000x64.Transposes [1, 0] S64x100000
  sliceFits_S1024x100000_S1024x102 : S1024x100000.Slices (fun _ => 0) S1024x102
  slices_S1024x102_S1024x1_0_0 : S1024x102.Slices ![0, 0] S1024x1
  slices_S1024x102_S1024x1_0_1 : S1024x102.Slices ![0, 1] S1024x1
  slices_S1024x102_S1024x1_0_10 : S1024x102.Slices ![0, 10] S1024x1
  slices_S1024x102_S1024x1_0_11 : S1024x102.Slices ![0, 11] S1024x1
  slices_S1024x102_S1024x1_0_20 : S1024x102.Slices ![0, 20] S1024x1
  slices_S1024x102_S1024x1_0_21 : S1024x102.Slices ![0, 21] S1024x1
  slices_S1024x102_S1024x1_0_100 : S1024x102.Slices ![0, 100] S1024x1
  slices_S1024x102_S1024x1_0_101 : S1024x102.Slices ![0, 101] S1024x1
  dot_S1024x64_S64x100000_S1024x100000_1_0_0_1_n_n_wf : DotDims.WF S1024x64 S64x100000 S1024x100000 [1] [0] [0] [1] [] []

variable [Facts]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def fn {F : FTy → Type} [FloatOps F] (main_arg0 : FVec F S1024x64 .f32) (main_arg1 : FVec F S100000x64 .f32) (main_arg2 : IVec S100000 32) : IVec S1024x1 1 :=
  let main_v0 : FVec F S64x100000 .f32 := (transpose S64x100000 [1, 0] · transposes_S100000x64_S64x100000_1_0) main_arg1
  let main_v1 : FVec F S1024x100000 .f32 := (fun l r => Host.dotGeneral dot_S1024x64_S64x100000_S1024x100000_1_0_0_1_n_n none l r) main_arg0 main_v0
  let main_values : FVec F S1024x102 .f32 := (fun x => (Host.topK S1024x102 1 (FloatOps.cmpfTotal .gt) x sliceFits_S1024x100000_S1024x102).1) main_v1
  let main_indices : IVec S1024x102 32 := (fun x => (Host.topK S1024x102 1 (FloatOps.cmpfTotal .gt) x sliceFits_S1024x100000_S1024x102).2) main_v1
  let main_v2 : FVec F S1024x1 .f32 := (extractStridedSlice S1024x1 ![0, 0] · slices_S1024x102_S1024x1_0_0) main_values
  let main_v3 : FVec F S1024x1 .f32 := (extractStridedSlice S1024x1 ![0, 1] · slices_S1024x102_S1024x1_0_1) main_values
  let main_v4 : IVec S1024x1 1 := cmpf .ogt main_v2 main_v3
  let main_v5 : FVec F S1024x1 .f32 := (extractStridedSlice S1024x1 ![0, 10] · slices_S1024x102_S1024x1_0_10) main_values
  let main_v6 : FVec F S1024x1 .f32 := (extractStridedSlice S1024x1 ![0, 11] · slices_S1024x102_S1024x1_0_11) main_values
  let main_v7 : IVec S1024x1 1 := cmpf .ogt main_v5 main_v6
  let main_v8 : IVec S1024x1 1 := andi main_v4 main_v7
  let main_v9 : FVec F S1024x1 .f32 := (extractStridedSlice S1024x1 ![0, 20] · slices_S1024x102_S1024x1_0_20) main_values
  let main_v10 : FVec F S1024x1 .f32 := (extractStridedSlice S1024x1 ![0, 21] · slices_S1024x102_S1024x1_0_21) main_values
  let main_v11 : IVec S1024x1 1 := cmpf .ogt main_v9 main_v10
  let main_v12 : IVec S1024x1 1 := andi main_v8 main_v11
  let main_v13 : FVec F S1024x1 .f32 := (extractStridedSlice S1024x1 ![0, 100] · slices_S1024x102_S1024x1_0_100) main_values
  let main_v14 : FVec F S1024x1 .f32 := (extractStridedSlice S1024x1 ![0, 101] · slices_S1024x102_S1024x1_0_101) main_values
  let main_v15 : IVec S1024x1 1 := cmpf .ogt main_v13 main_v14
  let main_v16 : IVec S1024x1 1 := andi main_v12 main_v15
  main_v16
-- ==== Kernel.lean ====
abbrev S1024x64 : Shape := ⟨2, ![1024, 64]⟩
abbrev S100000x64 : Shape := ⟨2, ![100000, 64]⟩
abbrev S100000 : Shape := ⟨1, ![100000]⟩
abbrev S_ : Shape := ⟨0, ![]⟩
abbrev S100352x64 : Shape := ⟨2, ![100352, 64]⟩
abbrev S64x100352 : Shape := ⟨2, ![64, 100352]⟩
abbrev S100352 : Shape := ⟨1, ![100352]⟩
abbrev S1024x100352 : Shape := ⟨2, ![1024, 100352]⟩
abbrev S1024x6272 : Shape := ⟨2, ![1024, 6272]⟩
abbrev S1024x896 : Shape := ⟨2, ![1024, 896]⟩
abbrev S64x2048 : Shape := ⟨2, ![64, 2048]⟩
abbrev S1024x2048 : Shape := ⟨2, ![1024, 2048]⟩
abbrev S1024x128 : Shape := ⟨2, ![1024, 128]⟩
abbrev S1024x16x128 : Shape := ⟨3, ![1024, 16, 128]⟩
abbrev S1024x128x1 : Shape := ⟨3, ![1024, 128, 1]⟩
abbrev S7 : Shape := ⟨1, ![7]⟩
abbrev S1x1x7 : Shape := ⟨3, ![1, 1, 7]⟩
abbrev S1024x128x7 : Shape := ⟨3, ![1024, 128, 7]⟩
abbrev S1024x896x1 : Shape := ⟨3, ![1024, 896, 1]⟩
abbrev S1 : Shape := ⟨1, ![1]⟩
abbrev S1x1x1 : Shape := ⟨3, ![1, 1, 1]⟩
abbrev S16 : Shape := ⟨1, ![16]⟩
abbrev S1x1x16 : Shape := ⟨3, ![1, 1, 16]⟩
abbrev S1024x128x16 : Shape := ⟨3, ![1024, 128, 16]⟩
abbrev S1024x2048x1 : Shape := ⟨3, ![1024, 2048, 1]⟩
abbrev S1024x101 : Shape := ⟨2, ![1024, 101]⟩
abbrev S1024x101x1 : Shape := ⟨3, ![1024, 101, 1]⟩
abbrev S1024x1024 : Shape := ⟨2, ![1024, 1024]⟩
abbrev S8x128 : Shape := ⟨2, ![8, 128]⟩
abbrev S8x1024 : Shape := ⟨2, ![8, 1024]⟩
abbrev S8x100 : Shape := ⟨2, ![8, 100]⟩
abbrev S8 : Shape := ⟨1, ![8]⟩
abbrev S8x1 : Shape := ⟨2, ![8, 1]⟩
abbrev S8x100x1024 : Shape := ⟨3, ![8, 100, 1024]⟩
abbrev S8x100x1 : Shape := ⟨3, ![8, 100, 1]⟩
abbrev S8x10x1024 : Shape := ⟨3, ![8, 10, 1024]⟩
abbrev S8x80x1024 : Shape := ⟨3, ![8, 80, 1024]⟩
abbrev S1024x1000 : Shape := ⟨2, ![1024, 1000]⟩

abbrev nBuf : Space → Nat
  | .hbm => 252
  | .vmem => 19
  | .smem => 0
  | _ => 0

abbrev hbmTy0_0 (i : Nat) : BufTy := match i % 128 with
  | 0 => ⟨S1024x64, .f32⟩
  | 1 => ⟨S100000x64, .f32⟩
  | 2 => ⟨S100000, .i32⟩
  | 3 => ⟨S_, .i32⟩
  | 4 => ⟨S_, .f32⟩
  | 5 => ⟨S100352x64, .f32⟩
  | 6 => ⟨S64x100352, .f32⟩
  | 7 => ⟨S_, .i32⟩
  | 8 => ⟨S_, .i32⟩
  | 9 => ⟨S100352, .i32⟩
  | 10 => ⟨S1024x100352, .f32⟩
  | 11 => ⟨S1024x6272, .f32⟩
  | 12 => ⟨S1024x896, .f32⟩
  | 13 => ⟨S1024x128, .f32⟩
  | 14 => ⟨S1024x128, .i32⟩
  | 15 => ⟨S1024x128x1, .i32⟩
  | 16 => ⟨S_, .i32⟩
  | 17 => ⟨S_, .i32⟩
  | 18 => ⟨S1024x128x1, .i32⟩
  | 19 => ⟨S1024x128x1, .i32⟩
  | 20 => ⟨S1024x128x1, .i32⟩
  | 21 => ⟨S_, .i32⟩
  | 22 => ⟨S1024x128x1, .i32⟩
  | 23 => ⟨S1024x128x1, .i1⟩
  | 24 => ⟨S1024x128x1, .i32⟩
  | 25 => ⟨S1024x128x1, .i32⟩
  | 26 => ⟨S_, .i32⟩
  | 27 => ⟨S1024x128x1, .i32⟩
  | 28 => ⟨S1024x128x1, .i1⟩
  | 29 => ⟨S1024x128x1, .i1⟩
  | 30 => ⟨S_, .i32⟩
  | 31 => ⟨S1024x128x1, .i32⟩
  | 32 => ⟨S1024x128x1, .i32⟩
  | 33 => ⟨S1024x128x1, .i32⟩
  | 34 => ⟨S_, .i32⟩
  | 35 => ⟨S1024x128x1, .i32⟩
  | 36 => ⟨S1024x128x1, .i32⟩
  | 37 => ⟨S7, .i32⟩
  | 38 => ⟨S1x1x7, .i32⟩
  | 39 => ⟨S1024x128x7, .i32⟩
  | 40 => ⟨S1024x128x7, .i32⟩
  | 41 => ⟨S1024x128x7, .i32⟩
  | 42 => ⟨S_, .i32⟩
  | 43 => ⟨S1024x128x7, .i32⟩
  | 44 => ⟨S1024x128x7, .i32⟩
  | 45 => ⟨S1024x128x1, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S1024x128x1, .i32⟩
  | 53 => ⟨S1024x128x1, .i32⟩
  | 54 => ⟨S_, .i32⟩
  | 55 => ⟨S1024x128x1, .i32⟩
  | 56 => ⟨S1024x128x1, .i1⟩
  | 57 => ⟨S_, .i32⟩
  | 58 => ⟨S1024x128x1, .i32⟩
  | 59 => ⟨S1024x128x1, .i1⟩
  | 60 => ⟨S_, .i32⟩
  | 61 => ⟨S_, .i1⟩
  | 62 => ⟨S1024x128x1, .i1⟩
  | 63 => ⟨S1024x128x1, .i1⟩
  | 64 => ⟨S1024x128x1, .i1⟩
  | 65 => ⟨S1024x128x1, .i32⟩
  | 66 => ⟨S1024x128x1, .i32⟩
  | 67 => ⟨S1024x128x1, .i32⟩
  | 68 => ⟨S1024x128x7, .i32⟩
  | 69 => ⟨S1024x128x7, .i32⟩
  | 70 => ⟨S1024x896, .i32⟩
  | 71 => ⟨S_, .i32⟩
  | 72 => ⟨S1024x896, .i32⟩
  | 73 => ⟨S1024x896, .i1⟩
  | 74 => ⟨S_, .i32⟩
  | 75 => ⟨S1024x896, .i32⟩
  | 76 => ⟨S1024x896, .i32⟩
  | 77 => ⟨S1024x896, .i32⟩
  | 78 => ⟨S1024x896x1, .i32⟩
  | 79 => ⟨S1, .i32⟩
  | 80 => ⟨S_, .i32⟩
  | 81 => ⟨S1024x896x1, .i32⟩
  | 82 => ⟨S1024x896x1, .i1⟩
  | 83 => ⟨S1x1x1, .i32⟩
  | 84 => ⟨S1024x896x1, .i32⟩
  | 85 => ⟨S1024x896x1, .i1⟩
  | 86 => ⟨S1024x896x1, .i1⟩
  | 87 => ⟨S_, .i1⟩
  | 88 => ⟨S1024x896, .i1⟩
  | 89 => ⟨S1024x896, .f32⟩
  | 90 => ⟨S_, .f32⟩
  | 91 => ⟨S1024x896, .f32⟩
  | 92 => ⟨S1024x896, .f32⟩
  | 93 => ⟨S1024x128, .f32⟩
  | 94 => ⟨S1024x128, .i32⟩
  | 95 => ⟨S_, .i32⟩
  | 96 => ⟨S1024x128, .i32⟩
  | 97 => ⟨S1024x128, .i1⟩
  | 98 => ⟨S_, .i32⟩
  | 99 => ⟨S1024x128, .i32⟩
  | 100 => ⟨S1024x128, .i32⟩
  | 101 => ⟨S1024x128, .i32⟩
  | 102 => ⟨S1024x128x1, .i32⟩
  | 103 => ⟨S1, .i32⟩
  | 104 => ⟨S_, .i32⟩
  | 105 => ⟨S1024x128x1, .i32⟩
  | 106 => ⟨S1024x128x1, .i1⟩
  | 107 => ⟨S1x1x1, .i32⟩
  | 108 => ⟨S1024x128x1, .i32⟩
  | 109 => ⟨S1024x128x1, .i1⟩
  | 110 => ⟨S1024x128x1, .i1⟩
  | 111 => ⟨S_, .i1⟩
  | 112 => ⟨S1024x128, .i1⟩
  | 113 => ⟨S1024x128, .i32⟩
  | 114 => ⟨S_, .i32⟩
  | 115 => ⟨S1024x128, .i32⟩
  | 116 => ⟨S1024x128, .i32⟩
  | 117 => ⟨S1024x128x1, .i32⟩
  | 118 => ⟨S_, .i32⟩
  | 119 => ⟨S_, .i32⟩
  | 120 => ⟨S1024x128x1, .i32⟩
  | 121 => ⟨S1024x128x1, .i32⟩
  | 122 => ⟨S1024x128x1, .i32⟩
  | 123 => ⟨S_, .i32⟩
  | 124 => ⟨S1024x128x1, .i32⟩
  | 125 => ⟨S1024x128x1, .i1⟩
  | 126 => ⟨S1024x128x1, .i32⟩
  | 127 => ⟨S1024x128x1, .i32⟩
  | _ => ⟨S1024x64, .f32⟩

abbrev hbmTy0_1 (i : Nat) : BufTy := match i % 128 with
  | 0 => ⟨S_, .i32⟩
  | 1 => ⟨S1024x128x1, .i32⟩
  | 2 => ⟨S1024x128x1, .i1⟩
  | 3 => ⟨S1024x128x1, .i1⟩
  | 4 => ⟨S_, .i32⟩
  | 5 => ⟨S1024x128x1, .i32⟩
  | 6 => ⟨S1024x128x1, .i32⟩
  | 7 => ⟨S1024x128x1, .i32⟩
  | 8 => ⟨S_, .i32⟩
  | 9 => ⟨S1024x128x1, .i32⟩
  | 10 => ⟨S1024x128x1, .i32⟩
  | 11 => ⟨S1024x128x1, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S1024x128x1, .i32⟩
  | 19 => ⟨S1024x128x1, .i32⟩
  | 20 => ⟨S_, .i32⟩
  | 21 => ⟨S1024x128x1, .i32⟩
  | 22 => ⟨S1024x128x1, .i1⟩
  | 23 => ⟨S_, .i32⟩
  | 24 => ⟨S1024x128x1, .i32⟩
  | 25 => ⟨S1024x128x1, .i1⟩
  | 26 => ⟨S_, .i32⟩
  | 27 => ⟨S_, .i1⟩
  | 28 => ⟨S1024x128x1, .i1⟩
  | 29 => ⟨S1024x128x1, .i1⟩
  | 30 => ⟨S1024x128x1, .i1⟩
  | 31 => ⟨S1024x128x1, .i32⟩
  | 32 => ⟨S1024x128x1, .i32⟩
  | 33 => ⟨S1024x128x1, .i32⟩
  | 34 => ⟨S1024x128x1, .i32⟩
  | 35 => ⟨S16, .i32⟩
  | 36 => ⟨S_, .i32⟩
  | 37 => ⟨S16, .i32⟩
  | 38 => ⟨S16, .i32⟩
  | 39 => ⟨S1x1x16, .i32⟩
  | 40 => ⟨S1024x128x16, .i32⟩
  | 41 => ⟨S1024x128x16, .i32⟩
  | 42 => ⟨S1024x128x16, .i32⟩
  | 43 => ⟨S1024x2048, .i32⟩
  | 44 => ⟨S_, .i32⟩
  | 45 => ⟨S1024x2048, .i32⟩
  | 46 => ⟨S1024x2048, .i1⟩
  | 47 => ⟨S_, .i32⟩
  | 48 => ⟨S1024x2048, .i32⟩
  | 49 => ⟨S1024x2048, .i32⟩
  | 50 => ⟨S1024x2048, .i32⟩
  | 51 => ⟨S1024x2048x1, .i32⟩
  | 52 => ⟨S1, .i32⟩
  | 53 => ⟨S_, .i32⟩
  | 54 => ⟨S1024x2048x1, .i32⟩
  | 55 => ⟨S1024x2048x1, .i1⟩
  | 56 => ⟨S1x1x1, .i32⟩
  | 57 => ⟨S1024x2048x1, .i32⟩
  | 58 => ⟨S1024x2048x1, .i1⟩
  | 59 => ⟨S1024x2048x1, .i1⟩
  | 60 => ⟨S_, .i1⟩
  | 61 => ⟨S1024x2048, .i1⟩
  | 62 => ⟨S1024x2048, .f32⟩
  | 63 => ⟨S_, .f32⟩
  | 64 => ⟨S1024x2048, .f32⟩
  | 65 => ⟨S1024x2048, .f32⟩
  | 66 => ⟨S1024x101, .f32⟩
  | 67 => ⟨S1024x101, .i32⟩
  | 68 => ⟨S_, .i32⟩
  | 69 => ⟨S1024x101, .i32⟩
  | 70 => ⟨S1024x101, .i1⟩
  | 71 => ⟨S_, .i32⟩
  | 72 => ⟨S1024x101, .i32⟩
  | 73 => ⟨S1024x101, .i32⟩
  | 74 => ⟨S1024x101, .i32⟩
  | 75 => ⟨S1024x101x1, .i32⟩
  | 76 => ⟨S1, .i32⟩
  | 77 => ⟨S_, .i32⟩
  | 78 => ⟨S1024x101x1, .i32⟩
  | 79 => ⟨S1024x101x1, .i1⟩
  | 80 => ⟨S1x1x1, .i32⟩
  | 81 => ⟨S1024x101x1, .i32⟩
  | 82 => ⟨S1024x101x1, .i1⟩
  | 83 => ⟨S1024x101x1, .i1⟩
  | 84 => ⟨S_, .i1⟩
  | 85 => ⟨S1024x101, .i1⟩
  | 86 => ⟨S1024x101, .i32⟩
  | 87 => ⟨S_, .i32⟩
  | 88 => ⟨S1024x101, .i32⟩
  | 89 => ⟨S1024x101, .i32⟩
  | 90 => ⟨S_, .i32⟩
  | 91 => ⟨S1024x101, .i32⟩
  | 92 => ⟨S1024x101, .i1⟩
  | 93 => ⟨S_, .i32⟩
  | 94 => ⟨S1024x101, .i32⟩
  | 95 => ⟨S1024x101, .i32⟩
  | 96 => ⟨S1024x101, .i32⟩
  | 97 => ⟨S1024x101x1, .i32⟩
  | 98 => ⟨S1, .i32⟩
  | 99 => ⟨S_, .i32⟩
  | 100 => ⟨S1024x101x1, .i32⟩
  | 101 => ⟨S1024x101x1, .i1⟩
  | 102 => ⟨S1x1x1, .i32⟩
  | 103 => ⟨S1024x101x1, .i32⟩
  | 104 => ⟨S1024x101x1, .i1⟩
  | 105 => ⟨S1024x101x1, .i1⟩
  | 106 => ⟨S_, .i1⟩
  | 107 => ⟨S1024x101, .i1⟩
  | 108 => ⟨S1024x101, .i32⟩
  | 109 => ⟨S_, .i32⟩
  | 110 => ⟨S1024x101, .i32⟩
  | 111 => ⟨S1024x101, .i32⟩
  | 112 => ⟨S_, .f32⟩
  | 113 => ⟨S_, .f32⟩
  | 114 => ⟨S1024x128, .f32⟩
  | 115 => ⟨S_, .i32⟩
  | 116 => ⟨S_, .i32⟩
  | 117 => ⟨S1024x128, .i32⟩
  | 118 => ⟨S1024x1024, .f32⟩
  | 119 => ⟨S1024x1024, .f32⟩
  | 120 => ⟨S1024x1024, .f32⟩
  | 121 => ⟨S1024x1000, .f32⟩
  | 122 => ⟨S1024x1000, .f32⟩
  | 123 => ⟨S1024x1000, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S64x2048, .f32⟩
  | .local _ .vmem, ⟨2, _⟩ => ⟨S64x2048, .f32⟩
  | .local _ .vmem, ⟨3, _⟩ => ⟨S1024x2048, .f32⟩
  | .local _ .vmem, ⟨4, _⟩ => ⟨S1024x2048, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S8x128, .f32⟩
  | .local _ .vmem, ⟨10, _⟩ => ⟨S8x128, .f32⟩
  | .local _ .vmem, ⟨11, _⟩ => ⟨S8x128, .i32⟩
  | .local _ .vmem, ⟨12, _⟩ => ⟨S8x128, .i32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_values : Ref sig .tc := ⟨.hbm, 13, rfl⟩
abbrev main_indices : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_v5 : Ref sig .tc := ⟨.hbm, 22, rfl⟩
abbrev main_call2_v6 : Ref sig .tc := ⟨.hbm, 23, rfl⟩
abbrev main_call2_v7 : Ref sig .tc := ⟨.hbm, 24, rfl⟩
abbrev main_call2_v8 : Ref sig .tc := ⟨.hbm, 25, rfl⟩
abbrev main_call2_c : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_0 : Ref sig .tc := ⟨.hbm, 30, rfl⟩
abbrev main_call2_v12 : Ref sig .tc := ⟨.hbm, 31, rfl⟩
abbrev main_call2_v13 : Ref sig .tc := ⟨.hbm, 32, rfl⟩
abbrev main_v5 : Ref sig .tc := ⟨.hbm, 33, rfl⟩
abbrev main_c_2 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_4 : Ref sig .tc := ⟨.hbm, 46, rfl⟩
abbrev main_call3_v0 : Ref sig .tc := ⟨.hbm, 47, rfl⟩
abbrev main_call3_c : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_c_1 : Ref sig .tc := ⟨.hbm, 54, rfl⟩
abbrev main_call3_v5 : Ref sig .tc := ⟨.hbm, 55, rfl⟩
abbrev main_call3_v6 : Ref sig .tc := ⟨.hbm, 56, rfl⟩
abbrev main_call3_c_2 : Ref sig .tc := ⟨.hbm, 57, rfl⟩
abbrev main_call3_v7 : Ref sig .tc := ⟨.hbm, 58, rfl⟩
abbrev main_call3_v8 : Ref sig .tc := ⟨.hbm, 59, rfl⟩
abbrev main_call3_c_3 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_c_1 : Ref sig .tc := ⟨.hbm, 79, rfl⟩
abbrev main_call4_c_2 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_3 : Ref sig .tc := ⟨.hbm, 87, rfl⟩
abbrev main_call4_v12 : Ref sig .tc := ⟨.hbm, 88, rfl⟩
abbrev main_call4_v13 : Ref sig .tc := ⟨.hbm, 89, rfl⟩
abbrev main_call4_cst : Ref sig .tc := ⟨.hbm, 90, rfl⟩
abbrev main_call4_v14 : Ref sig .tc := ⟨.hbm, 91, rfl⟩
abbrev main_v20 : Ref sig .tc := ⟨.hbm, 92, rfl⟩
abbrev main_values_5 : Ref sig .tc := ⟨.hbm, 93, rfl⟩
abbrev main_indices_6 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_c_1 : Ref sig .tc := ⟨.hbm, 103, rfl⟩
abbrev main_call5_c_2 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_c_3 : Ref sig .tc := ⟨.hbm, 111, rfl⟩
abbrev main_call5_v12 : Ref sig .tc := ⟨.hbm, 112, rfl⟩
abbrev main_call5_v13 : Ref sig .tc := ⟨.hbm, 113, rfl⟩
abbrev main_call5_c_4 : Ref sig .tc := ⟨.hbm, 114, rfl⟩
abbrev main_call5_v14 : Ref sig .tc := ⟨.hbm, 115, rfl⟩
abbrev main_v21 : Ref sig .tc := ⟨.hbm, 116, rfl⟩
abbrev main_v22 : Ref sig .tc := ⟨.hbm, 117, rfl⟩
abbrev main_c_7 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_c : Ref sig .tc := ⟨.hbm, 128, rfl⟩
abbrev main_call6_v9 : Ref sig .tc := ⟨.hbm, 129, rfl⟩
abbrev main_call6_v10 : Ref sig .tc := ⟨.hbm, 130, rfl⟩
abbrev main_call6_v11 : Ref sig .tc := ⟨.hbm, 131, rfl⟩
abbrev main_call6_c_0 : Ref sig .tc := ⟨.hbm, 132, rfl⟩
abbrev main_call6_v12 : Ref sig .tc := ⟨.hbm, 133, rfl⟩
abbrev main_call6_v13 : Ref sig .tc := ⟨.hbm, 134, rfl⟩
abbrev main_v23 : Ref sig .tc := ⟨.hbm, 135, rfl⟩
abbrev main_c_8 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_c_9 : Ref sig .tc := ⟨.hbm, 140, rfl⟩
abbrev main_call7_v0 : Ref sig .tc := ⟨.hbm, 141, rfl⟩
abbrev main_call7_c : Ref sig .tc := ⟨.hbm, 142, rfl⟩
abbrev main_call7_v1 : Ref sig .tc := ⟨.hbm, 143, rfl⟩
abbrev main_call7_c_0 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_call7_c_1 : Ref sig .tc := ⟨.hbm, 148, rfl⟩
abbrev main_call7_v5 : Ref sig .tc := ⟨.hbm, 149, rfl⟩
abbrev main_call7_v6 : Ref sig .tc := ⟨.hbm, 150, rfl⟩
abbrev main_call7_c_2 : Ref sig .tc := ⟨.hbm, 151, rfl⟩
abbrev main_call7_v7 : Ref sig .tc := ⟨.hbm, 152, rfl⟩
abbrev main_call7_v8 : Ref sig .tc := ⟨.hbm, 153, rfl⟩
abbrev main_call7_c_3 : Ref sig .tc := ⟨.hbm, 154, rfl⟩
abbrev main_call7_v9 : Ref sig .tc := ⟨.hbm, 155, rfl⟩
abbrev main_call7_v10 : Ref sig .tc := ⟨.hbm, 156, rfl⟩
abbrev main_call7_v11 : Ref sig .tc := ⟨.hbm, 157, rfl⟩
abbrev main_call7_v12 : Ref sig .tc := ⟨.hbm, 158, rfl⟩
abbrev main_call7_v13 : Ref sig .tc := ⟨.hbm, 159, rfl⟩
abbrev main_call7_v14 : Ref sig .tc := ⟨.hbm, 160, rfl⟩
abbrev main_v27 : Ref sig .tc := ⟨.hbm, 161, rfl⟩
abbrev main_v28 : Ref sig .tc := ⟨.hbm, 162, rfl⟩
abbrev main_v29 : Ref sig .tc := ⟨.hbm, 163, rfl⟩
abbrev main_c_10 : Ref sig .tc := ⟨.hbm, 164, rfl⟩
abbrev main_v30 : Ref sig .tc := ⟨.hbm, 165, rfl⟩
abbrev main_v31 : Ref sig .tc := ⟨.hbm, 166, rfl⟩
abbrev main_v32 : Ref sig .tc := ⟨.hbm, 167, rfl⟩
abbrev main_v33 : Ref sig .tc := ⟨.hbm, 168, rfl⟩
abbrev main_v34 : Ref sig .tc := ⟨.hbm, 169, rfl⟩
abbrev main_v35 : Ref sig .tc := ⟨.hbm, 170, rfl⟩
abbrev main_v36 : Ref sig .tc := ⟨.hbm, 171, rfl⟩
abbrev main_call8_c : Ref sig .tc := ⟨.hbm, 172, rfl⟩
abbrev main_call8_v0 : Ref sig .tc := ⟨.hbm, 173, rfl⟩
abbrev main_call8_v1 : Ref sig .tc := ⟨.hbm, 174, rfl⟩
abbrev main_call8_c_0 : Ref sig .tc := ⟨.hbm, 175, rfl⟩
abbrev main_call8_v2 : Ref sig .tc := ⟨.hbm, 176, rfl⟩
abbrev main_call8_v3 : Ref sig .tc := ⟨.hbm, 177, rfl⟩
abbrev main_call8_v4 : Ref sig .tc := ⟨.hbm, 178, rfl⟩
abbrev main_call8_v5 : Ref sig .tc := ⟨.hbm, 179, rfl⟩
abbrev main_call8_c_1 : Ref sig .tc := ⟨.hbm, 180, rfl⟩
abbrev main_call8_c_2 : Ref sig .tc := ⟨.hbm, 181, rfl⟩
abbrev main_call8_v6 : Ref sig .tc := ⟨.hbm, 182, rfl⟩
abbrev main_call8_v7 : Ref sig .tc := ⟨.hbm, 183, rfl⟩
abbrev main_call8_v8 : Ref sig .tc := ⟨.hbm, 184, rfl⟩
abbrev main_call8_v9 : Ref sig .tc := ⟨.hbm, 185, rfl⟩
abbrev main_call8_v10 : Ref sig .tc := ⟨.hbm, 186, rfl⟩
abbrev main_call8_v11 : Ref sig .tc := ⟨.hbm, 187, rfl⟩
abbrev main_call8_c_3 : Ref sig .tc := ⟨.hbm, 188, rfl⟩
abbrev main_call8_v12 : Ref sig .tc := ⟨.hbm, 189, rfl⟩
abbrev main_call8_v13 : Ref sig .tc := ⟨.hbm, 190, rfl⟩
abbrev main_call8_cst : Ref sig .tc := ⟨.hbm, 191, rfl⟩
abbrev main_call8_v14 : Ref sig .tc := ⟨.hbm, 192, rfl⟩
abbrev main_v37 : Ref sig .tc := ⟨.hbm, 193, rfl⟩
abbrev main_values_11 : Ref sig .tc := ⟨.hbm, 194, rfl⟩
abbrev main_indices_12 : Ref sig .tc := ⟨.hbm, 195, rfl⟩
abbrev main_call9_c : Ref sig .tc := ⟨.hbm, 196, rfl⟩
abbrev main_call9_v0 : Ref sig .tc := ⟨.hbm, 197, rfl⟩
abbrev main_call9_v1 : Ref sig .tc := ⟨.hbm, 198, rfl⟩
abbrev main_call9_c_0 : Ref sig .tc := ⟨.hbm, 199, rfl⟩
abbrev main_call9_v2 : Ref sig .tc := ⟨.hbm, 200, rfl⟩
abbrev main_call9_v3 : Ref sig .tc := ⟨.hbm, 201, rfl⟩
abbrev main_call9_v4 : Ref sig .tc := ⟨.hbm, 202, rfl⟩
abbrev main_call9_v5 : Ref sig .tc := ⟨.hbm, 203, rfl⟩
abbrev main_call9_c_1 : Ref sig .tc := ⟨.hbm, 204, rfl⟩
abbrev main_call9_c_2 : Ref sig .tc := ⟨.hbm, 205, rfl⟩
abbrev main_call9_v6 : Ref sig .tc := ⟨.hbm, 206, rfl⟩
abbrev main_call9_v7 : Ref sig .tc := ⟨.hbm, 207, rfl⟩
abbrev main_call9_v8 : Ref sig .tc := ⟨.hbm, 208, rfl⟩
abbrev main_call9_v9 : Ref sig .tc := ⟨.hbm, 209, rfl⟩
abbrev main_call9_v10 : Ref sig .tc := ⟨.hbm, 210, rfl⟩
abbrev main_call9_v11 : Ref sig .tc := ⟨.hbm, 211, rfl⟩
abbrev main_call9_c_3 : Ref sig .tc := ⟨.hbm, 212, rfl⟩
abbrev main_call9_v12 : Ref sig .tc := ⟨.hbm, 213, rfl⟩
abbrev main_call9_v13 : Ref sig .tc := ⟨.hbm, 214, rfl⟩
abbrev main_call9_c_4 : Ref sig .tc := ⟨.hbm, 215, rfl⟩
abbrev main_call9_v14 : Ref sig .tc := ⟨.hbm, 216, rfl⟩
abbrev main_v38 : Ref sig .tc := ⟨.hbm, 217, rfl⟩
abbrev main_call10_c : Ref sig .tc := ⟨.hbm, 218, rfl⟩
abbrev main_call10_v0 : Ref sig .tc := ⟨.hbm, 219, rfl⟩
abbrev main_call10_v1 : Ref sig .tc := ⟨.hbm, 220, rfl⟩
abbrev main_call10_c_0 : Ref sig .tc := ⟨.hbm, 221, rfl⟩
abbrev main_call10_v2 : Ref sig .tc := ⟨.hbm, 222, rfl⟩
abbrev main_call10_v3 : Ref sig .tc := ⟨.hbm, 223, rfl⟩
abbrev main_call10_v4 : Ref sig .tc := ⟨.hbm, 224, rfl⟩
abbrev main_call10_v5 : Ref sig .tc := ⟨.hbm, 225, rfl⟩
abbrev main_call10_c_1 : Ref sig .tc := ⟨.hbm, 226, rfl⟩
abbrev main_call10_c_2 : Ref sig .tc := ⟨.hbm, 227, rfl⟩
abbrev main_call10_v6 : Ref sig .tc := ⟨.hbm, 228, rfl⟩
abbrev main_call10_v7 : Ref sig .tc := ⟨.hbm, 229, rfl⟩
abbrev main_call10_v8 : Ref sig .tc := ⟨.hbm, 230, rfl⟩
abbrev main_call10_v9 : Ref sig .tc := ⟨.hbm, 231, rfl⟩
abbrev main_call10_v10 : Ref sig .tc := ⟨.hbm, 232, rfl⟩
abbrev main_call10_v11 : Ref sig .tc := ⟨.hbm, 233, rfl⟩
abbrev main_call10_c_3 : Ref sig .tc := ⟨.hbm, 234, rfl⟩
abbrev main_call10_v12 : Ref sig .tc := ⟨.hbm, 235, rfl⟩
abbrev main_call10_v13 : Ref sig .tc := ⟨.hbm, 236, rfl⟩
abbrev main_call10_c_4 : Ref sig .tc := ⟨.hbm, 237, rfl⟩
abbrev main_call10_v14 : Ref sig .tc := ⟨.hbm, 238, rfl⟩
abbrev main_v39 : Ref sig .tc := ⟨.hbm, 239, rfl⟩
abbrev main_cst : Ref sig .tc := ⟨.hbm, 240, rfl⟩
abbrev main_call11_v0 : Ref sig .tc := ⟨.hbm, 241, rfl⟩
abbrev main_v40 : Ref sig .tc := ⟨.hbm, 242, rfl⟩
abbrev main_c_13 : Ref sig .tc := ⟨.hbm, 243, rfl⟩
abbrev main_call12_v0 : Ref sig .tc := ⟨.hbm, 244, rfl⟩
abbrev main_v41 : Ref sig .tc := ⟨.hbm, 245, rfl⟩
abbrev main_v42_0 : Ref sig .tc := ⟨.hbm, 246, rfl⟩
abbrev main_v42_1 : Ref sig .tc := ⟨.hbm, 247, rfl⟩
abbrev main_v42_2 : Ref sig .tc := ⟨.hbm, 248, rfl⟩
abbrev main_v43 : Ref sig .tc := ⟨.hbm, 249, rfl⟩
abbrev main_v44 : Ref sig .tc := ⟨.hbm, 250, rfl⟩
abbrev main_v45 : Ref sig .tc := ⟨.hbm, 251, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c7_i32 : BitVec 32 := 7#32
  let c0_i32 : BitVec 32 := 0#32
  let v16 : BitVec 1 := Scalar.cmpi .eq c7_i32 c0_i32
  let c1_i32 : BitVec 32 := 1#32
  let v17 : BitVec 32 := Scalar.select v16 c1_i32 c7_i32
  let v18 : BitVec 32 := Scalar.remsi arg0 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_12 : BitVec 32 := 0#32
  let v26 : BitVec 1 := Scalar.cmpi .eq v25 c0_i32_12
  let v27 : BitVec 32 := Scalar.extui v26
  let c0_i32_13 : BitVec 32 := 0#32
  let v28 : BitVec 1 := Scalar.cmpi .ne v27 c0_i32_13
  v28

def k0_cond2 (i : grid0.Coords) : BitVec 1 :=
  let arg0 : BitVec 32 := BitVec.ofNat 32 (i 0).val
  let c7_i32_14 : BitVec 32 := 7#32
  let c0_i32_15 : BitVec 32 := 0#32
  let v29 : BitVec 1 := Scalar.cmpi .eq c7_i32_14 c0_i32_15
  let c1_i32_16 : BitVec 32 := 1#32
  let v30 : BitVec 32 := Scalar.select v29 c1_i32_16 c7_i32_14
  let v31 : BitVec 32 := Scalar.remsi arg0 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c0_i32_20 : BitVec 32 := 0#32
  let v39 : BitVec 1 := Scalar.cmpi .ne v38 c0_i32_20
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "inv_temp" => some ((134217728 / 9395241 : ℝ) : EReal)
  | "mask" => some ⊥
  | _ => none
-- ==== ReferenceIdeal.lean ====
abbrev S1024x64 : Shape := ⟨2, ![1024, 64]⟩
abbrev S100000x64 : Shape := ⟨2, ![100000, 64]⟩
abbrev S100000 : Shape := ⟨1, ![100000]⟩
abbrev S64x100000 : Shape := ⟨2, ![64, 100000]⟩
abbrev S1024x100000 : Shape := ⟨2, ![1024, 100000]⟩
abbrev S1024x101 : Shape := ⟨2, ![1024, 101]⟩
abbrev S1024x100 : Shape := ⟨2, ![1024, 100]⟩
abbrev S_ : Shape := ⟨0, ![]⟩
abbrev S1024x100x1 : Shape := ⟨3, ![1024, 100, 1]⟩
abbrev S1 : Shape := ⟨1, ![1]⟩
abbrev S1x1x1 : Shape := ⟨3, ![1, 1, 1]⟩
abbrev S1024 : Shape := ⟨1, ![1024]⟩
abbrev S1024x1 : Shape := ⟨2, ![1024, 1]⟩
abbrev S1x1x1000 : Shape := ⟨3, ![1, 1, 1000]⟩
abbrev S1024x100x1000 : Shape := ⟨3, ![1024, 100, 1000]⟩
abbrev S1024x10x1000 : Shape := ⟨3, ![1024, 10, 1000]⟩
abbrev S1024x1000 : Shape := ⟨2, ![1024, 1000]⟩
abbrev S1024x20x1000 : Shape := ⟨3, ![1024, 20, 1000]⟩

abbrev nBuf : Space → Nat
  | .hbm => 65
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S100000, .i32⟩
  | .hbm, ⟨3, _⟩ => ⟨S64x100000, .f32⟩
  | .hbm, ⟨4, _⟩ => ⟨S1024x100000, .f32⟩
  | .hbm, ⟨5, _⟩ => ⟨S1024x101, .f32⟩
  | .hbm, ⟨6, _⟩ => ⟨S1024x101, .i32⟩
  | .hbm, ⟨7, _⟩ => ⟨S1024x100, .f32⟩
  | .hbm, ⟨8, _⟩ => ⟨S1024x100, .i32⟩
  | .hbm, ⟨9, _⟩ => ⟨S_, .i32⟩
  | .hbm, ⟨10, _⟩ => ⟨S1024x100, .i32⟩
  | .hbm, ⟨11, _⟩ => ⟨S1024x100, .i1⟩
  | .hbm, ⟨12, _⟩ => ⟨S_, .i32⟩
  | .hbm, ⟨13, _⟩ => ⟨S1024x100, .i32⟩
  | .hbm, ⟨14, _⟩ => ⟨S1024x100, .i32⟩
  | .hbm, ⟨15, _⟩ => ⟨S1024x100, .i32⟩
  | .hbm, ⟨16, _⟩ => ⟨S1024x100x1, .i32⟩
  | .hbm, ⟨17, _⟩ => ⟨S1, .i32⟩
  | .hbm, ⟨18, _⟩ => ⟨S_, .i32⟩
  | .hbm, ⟨19, _⟩ => ⟨S1024x100x1, .i32⟩
  | .hbm, ⟨20, _⟩ => ⟨S1024x100x1, .i1⟩
  | .hbm, ⟨21, _⟩ => ⟨S1x1x1, .i32⟩
  | .hbm, ⟨22, _⟩ => ⟨S1024x100x1, .i32⟩
  | .hbm, ⟨23, _⟩ => ⟨S1024x100x1, .i1⟩
  | .hbm, ⟨24, _⟩ => ⟨S1024x100x1, .i1⟩
  | .hbm, ⟨25, _⟩ => ⟨S_, .i1⟩
  | .hbm, ⟨26, _⟩ => ⟨S1024x100, .i1⟩
  | .hbm, ⟨27, _⟩ => ⟨S1024x100, .i32⟩
  | .hbm, ⟨28, _⟩ => ⟨S_, .i32⟩
  | .hbm, ⟨29, _⟩ => ⟨S1024x100, .i32⟩
  | .hbm, ⟨30, _⟩ => ⟨S1024x100, .i32⟩
  | .hbm, ⟨31, _⟩ => ⟨S_, .f32⟩
  | .hbm, ⟨32, _⟩ => ⟨S1024x100, .f32⟩
  | .hbm, ⟨33, _⟩ => ⟨S1024x100, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x1, .f32⟩
  | .hbm, ⟨40, _⟩ => ⟨S1024x100, .f32⟩
  | .hbm, ⟨41, _⟩ => ⟨S1024x100, .f32⟩
  | .hbm, ⟨42, _⟩ => ⟨S1024x100, .f32⟩
  | .hbm, ⟨43, _⟩ => ⟨S_, .f32⟩
  | .hbm, ⟨44, _⟩ => ⟨S1024, .f32⟩
  | .hbm, ⟨45, _⟩ => ⟨S1024x1, .f32⟩
  | .hbm, ⟨46, _⟩ => ⟨S1024x100, .f32⟩
  | .hbm, ⟨47, _⟩ => ⟨S1024x100, .f32⟩
  | .hbm, ⟨48, _⟩ => ⟨S1024x100x1, .f32⟩
  | .hbm, ⟨49, _⟩ => ⟨S1024x100x1, .i32⟩
  | .hbm, ⟨50, _⟩ => ⟨S1x1x1000, .i32⟩
  | .hbm, ⟨51, _⟩ => ⟨S1024x100x1000, .i32⟩
  | .hbm, ⟨52, _⟩ => ⟨S1024x100x1000, .i32⟩
  | .hbm, ⟨53, _⟩ => ⟨S1024x100x1000, .i1⟩
  | .hbm, ⟨54, _⟩ => ⟨S1024x100x1000, .f32⟩
  | .hbm, ⟨55, _⟩ => ⟨S1024x100x1000, .f32⟩
  | .hbm, ⟨56, _⟩ => ⟨S1024x100x1000, .f32⟩
  | .hbm, ⟨57, _⟩ => ⟨S1024x10x1000, .f32⟩
  | .hbm, ⟨58, _⟩ => ⟨S_, .f32⟩
  | .hbm, ⟨59, _⟩ => ⟨S1024x1000, .f32⟩
  | .hbm, ⟨60, _⟩ => ⟨S1024x20x1000, .f32⟩
  | .hbm, ⟨61, _⟩ => ⟨S_, .f32⟩
  | .hbm, ⟨62, _⟩ => ⟨S1024x1000, .f32⟩
  | .hbm, ⟨63, _⟩ => ⟨S_, .f32⟩
  | .hbm, ⟨64, _⟩ => ⟨S1024x1000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_values : Ref sig .tc := ⟨.hbm, 5, rfl⟩
abbrev main_indices : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_c_4 : Ref sig .tc := ⟨.hbm, 28, rfl⟩
abbrev main_call0_v14 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_3 : Ref sig .tc := ⟨.hbm, 58, rfl⟩
abbrev main_v23 : Ref sig .tc := ⟨.hbm, 59, rfl⟩
abbrev main_v24 : Ref sig .tc := ⟨.hbm, 60, rfl⟩
abbrev main_cst_4 : Ref sig .tc := ⟨.hbm, 61, rfl⟩
abbrev main_v25 : Ref sig .tc := ⟨.hbm, 62, rfl⟩
abbrev main_cst_5 : Ref sig .tc := ⟨.hbm, 63, rfl⟩
abbrev main_v26 : Ref sig .tc := ⟨.hbm, 64, rfl⟩

abbrev nD : Nat := 1
abbrev τ : Topo := Topo.v7x

variable {F : FTy → Type} [FloatOps F]
-- ==== Proof.KernelIdealCall0.lean ====
/- Of the idealized kernel. The similarity launch: its body's triple at each grid point, and what its windows hold after each. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- The zero offsets. -/
private theorem z2 : (![0, 0] : Fin 2 → ℕ) = fun _ => 0 := by decide

/-! ## The windows' blocks -/

/-- Window `w`'s block at point `t`, read off the array the region is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Which of the two conditional stores a point takes -/

/-- The first conditional of the similarity body (start a new supergroup maximum) runs at the multiples of seven. -/
theorem starts : ∀ t : Fin cfg0.N, k0_cond1 (grid0.coords t) = 1#1 ↔ t.val % 7 = 0 :=
  (by decide +kernel : ∀ t : Fin grid0.N, k0_cond1 (grid0.coords t) = 1#1 ↔ t.val % 7 = 0)
/-- The second one (fold the maximum into what is there) runs at every other point. -/
theorem folds : ∀ t : Fin cfg0.N, k0_cond2 (grid0.coords t) = 1#1 ↔ ¬(t.val % 7 = 0) :=
  (by decide +kernel : ∀ t : Fin grid0.N, k0_cond2 (grid0.coords t) = 1#1 ↔ ¬(t.val % 7 = 0))

/-- The supergroup window is stored into at every point. -/
theorem live0_4 : ∀ t : Fin cfg0.N, cfg0.idle 4 (grid0.coords t) = false :=
  (by decide +kernel : ∀ t : Fin grid0.N, cfg0.idle 4 (grid0.coords t) = false)

/-- Its buffer holds nothing of the present supergroup exactly when a new one starts. -/
def unwritten : ℕ → Bool := fun n => decide (n % 7 = 0)
/-- How that changes from one point to the next. -/
theorem unwritten_step : ∀ t : Fin cfg0.N,
    unwritten (t.val + 1) = ((cfg0.win 4).flush t || (cfg0.idle 4 (cfg0.grid.coords t) && unwritten t.val)) := by decide +kernel
/-- The buffer of window 4 is fresh exactly there. -/
theorem fresh0_4 (t : Fin cfg0.N) : cfg0.fresh 4 t.val = unwritten t.val :=
  Pipeline.Cfg.fresh_tab cfg0 4 unwritten rfl unwritten_step t.val (Nat.le_of_lt t.isLt)

/-! ## The body's triple, one per branch -/

set_option maxHeartbeats 1000000 in
/-- At a point that starts a supergroup, the body leaves the masked similarities in window 2, the group maxima in window 3 and the same maxima in window 4. -/
theorem sim_start (c : Dev nD) (E : Set ℕ) (i : grid0.Coords) (arg1 : Memref sig .tc .vmem S1024x64 .f32) (harg1 : arg1.IsWhole) (arg2 : Memref sig .tc .vmem S64x2048 .f32) (harg2 : arg2.IsWhole) (arg3 : Memref sig .tc .vmem S1024x2048 .f32) (harg3 : arg3.IsWhole) (arg4 : Memref sig .tc .vmem S1024x128 .f32) (harg4 : arg4.IsWhole) (arg5 : Memref sig .tc .vmem S1024x128 .f32) (harg5 : arg5.IsWhole) (hc0 : k0_cond1 i = 1#1) (hc1 : ¬k0_cond2 i = 1#1)
    (x0 : Vec F S1024x64 .f32) (x1 : Vec F S64x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (k0_pay2 i x0 x1) ∗ owns (c : Thread nD τ) arg4 fullShare (k0_pay3 i x0 x1) ∗ owns (c : Thread nD τ) arg5 fullShare (k0_pay3 i x0 x1)) -∗ K ⟨⟩))
      ⊢ wp frame (wpE (defs₀ (F := F)) Variants.none c none) E (cc0__sim_kernel i arg1 harg1 arg2 harg2 arg3 harg3 arg4 harg4 arg5 harg5) K := by
  simp only [cc0__sim_kernel_eq_skeleton]; unfold cc0__sim_kernel_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (View.read_writes_eq_canon _ _ _ (fun y => View.cover_of_tiled [⟨Rect.unit (s := S1024x2048) ![0, 0] S1024x2048.size inb_S1024x2048_S1024x2048_0_0, _⟩] S1024x2048.size (by rfl) y)).trans ?_
    refine (View.canon_unit_zero z2 _ _).trans ?_
    exact congrArg₂ (k0_pay2 i) ((congrArg (fun g => View.ld g _) (harg1.read_unread _)).trans (View.ld_unit_zero (S := S1024x64) z2 _ _)) ((congrArg (fun g => View.ld g _) (harg2.read_unread _)).trans (View.ld_unit_zero (S := S64x2048) z2 _ _))
  isplitl [H3]
  · iexists _; isplitr
    swap; · iexact H3
    ipureintro
    refine (View.read_writes_eq_canon _ _ _ (fun y => View.cover_of_tiled [⟨Rect.unit (s := S1024x128) ![0, 0] S1024x128.size inb_S1024x128_S1024x128_0_0, _⟩] S1024x128.size (by rfl) y)).trans ?_
    refine (View.canon_unit_zero z2 _ _).trans ?_
    exact congrArg₂ (k0_pay3 i) ((congrArg (fun g => View.ld g _) (harg1.read_unread _)).trans (View.ld_unit_zero (S := S1024x64) z2 _ _)) ((congrArg (fun g => View.ld g _) (harg2.read_unread _)).trans (View.ld_unit_zero (S := S64x2048) z2 _ _))
  · iexists _; isplitr
    swap; · iexact H4
    ipureintro
    refine (View.read_writes_eq_canon _ _ _ (fun y => View.cover_of_tiled [⟨Rect.unit (s := S1024x128) ![0, 0] S1024x128.size inb_S1024x128_S1024x128_0_0, _⟩] S1024x128.size (by rfl) y)).trans ?_
    refine (View.canon_unit_zero z2 _ _).trans ?_
    exact congrArg₂ (k0_pay3 i) ((congrArg (fun g => View.ld g _) (harg1.read_unread _)).trans (View.ld_unit_zero (S := S1024x64) z2 _ _)) ((congrArg (fun g => View.ld g _) (harg2.read_unread _)).trans (View.ld_unit_zero (S := S64x2048) z2 _ _))

set_option maxHeartbeats 1000000 in
/-- At any other point, window 4 ends at the larger of what it held and the group maxima. -/
theorem sim_fold (c : Dev nD) (E : Set ℕ) (i : grid0.Coords) (arg1 : Memref sig .tc .vmem S1024x64 .f32) (harg1 : arg1.IsWhole) (arg2 : Memref sig .tc .vmem S64x2048 .f32) (harg2 : arg2.IsWhole) (arg3 : Memref sig .tc .vmem S1024x2048 .f32) (harg3 : arg3.IsWhole) (arg4 : Memref sig .tc .vmem S1024x128 .f32) (harg4 : arg4.IsWhole) (arg5 : Memref sig .tc .vmem S1024x128 .f32) (harg5 : arg5.IsWhole) (hc0 : ¬k0_cond1 i = 1#1) (hc1 : k0_cond2 i = 1#1)
    (x0 : Vec F S1024x64 .f32) (x1 : Vec F S64x2048 .f32) (x4 : Vec F S1024x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare x4
        ∗ (iprop(owns (c : Thread nD τ) arg1 fullShare x0 ∗ owns (c : Thread nD τ) arg2 fullShare x1 ∗ owns (c : Thread nD τ) arg3 fullShare (k0_pay2 i x0 x1) ∗ owns (c : Thread nD τ) arg4 fullShare (k0_pay3 i x0 x1) ∗ owns (c : Thread nD τ) arg5 fullShare (k0_pay1 (k0_pay3 i x0 x1) x4)) -∗ K ⟨⟩))
      ⊢ wp frame (wpE (defs₀ (F := F)) Variants.none c none) E (cc0__sim_kernel i arg1 harg1 arg2 harg2 arg3 harg3 arg4 harg4 arg5 harg5) K := by
  simp only [cc0__sim_kernel_eq_skeleton]; unfold cc0__sim_kernel_skel
  simp only [k0_part1_eq_skeleton]
  unfold owns
  iintro ⟨⟨%f0, %hf0, H0⟩, ⟨%f1, %hf1, H1⟩, ⟨%d2, %f2, -, H2⟩, ⟨%d3, %f3, -, H3⟩, ⟨%f4, %hf4, H4⟩, Hk⟩
  obtain rfl := harg1.eq_unread hf0; obtain rfl := harg2.eq_unread hf1; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (View.read_writes_eq_canon _ _ _ (fun y => View.cover_of_tiled [⟨Rect.unit (s := S1024x2048) ![0, 0] S1024x2048.size inb_S1024x2048_S1024x2048_0_0, _⟩] S1024x2048.size (by rfl) y)).trans ?_
    refine (View.canon_unit_zero z2 _ _).trans ?_
    exact congrArg₂ (k0_pay2 i) ((congrArg (fun g => View.ld g _) (harg1.read_unread _)).trans (View.ld_unit_zero (S := S1024x64) z2 _ _)) ((congrArg (fun g => View.ld g _) (harg2.read_unread _)).trans (View.ld_unit_zero (S := S64x2048) z2 _ _))
  isplitl [H3]
  · iexists _; isplitr
    swap; · iexact H3
    ipureintro
    refine (View.read_writes_eq_canon _ _ _ (fun y => View.cover_of_tiled [⟨Rect.unit (s := S1024x128) ![0, 0] S1024x128.size inb_S1024x128_S1024x128_0_0, _⟩] S1024x128.size (by rfl) y)).trans ?_
    refine (View.canon_unit_zero z2 _ _).trans ?_
    exact congrArg₂ (k0_pay3 i) ((congrArg (fun g => View.ld g _) (harg1.read_unread _)).trans (View.ld_unit_zero (S := S1024x64) z2 _ _)) ((congrArg (fun g => View.ld g _) (harg2.read_unread _)).trans (View.ld_unit_zero (S := S64x2048) z2 _ _))
  · iexists _; isplitr
    swap; · iexact H4
    ipureintro
    refine (View.read_writes_eq_canon _ _ _ (fun y => View.cover_of_tiled [⟨Rect.unit (s := S1024x128) ![0, 0] S1024x128.size inb_S1024x128_S1024x128_0_0, _⟩] S1024x128.size (by rfl) y)).trans ?_
    refine (View.canon_unit_zero z2 _ _).trans ?_
    exact congrArg₂ k0_pay1 (congrArg₂ (k0_pay3 i) ((congrArg (fun g => View.ld g _) (harg1.read_unread _)).trans (View.ld_unit_zero (S := S1024x64) z2 _ _)) ((congrArg (fun g => View.ld g _) (harg2.read_unread _)).trans (View.ld_unit_zero (S := S64x2048) z2 _ _))) ((congrArg (fun g => View.ld g _) (harg5.read_unread _)).trans (View.ld_unit_zero (S := S1024x128) z2 _ _))

/-! ## What the windows hold, point by point -/

/-- The running supergroup maximum after point `n`: the group maxima at the start of a supergroup, then the larger of the
    running maximum and the point's group maxima. -/
def runMax (c : Dev nD) : (n : ℕ) → n < cfg0.N → Vec F S1024x128 .f32
  | 0, h => k0_pay3 (grid0.coords ⟨0, h⟩) (blk0 V c 0 ⟨0, h⟩) (blk0 V c 1 ⟨0, h⟩)
  | n + 1, h =>
    if (n + 1) % 7 = 0 then k0_pay3 (grid0.coords ⟨n + 1, h⟩) (blk0 V c 0 ⟨n + 1, h⟩) (blk0 V c 1 ⟨n + 1, h⟩)
    else k0_pay1 (k0_pay3 (grid0.coords ⟨n + 1, h⟩) (blk0 V c 0 ⟨n + 1, h⟩) (blk0 V c 1 ⟨n + 1, h⟩)) (runMax c n (Nat.lt_of_succ_lt h))

/-- The running maximum where a super-group starts. -/
theorem runMax_start (c : Dev nD) (t : Fin cfg0.N) (h : t.val % 7 = 0) :
    runMax V c t.val t.isLt = k0_pay3 (grid0.coords t) (blk0 V c 0 t) (blk0 V c 1 t) := by
  obtain ⟨n, hn⟩ := t
  cases n with
  | zero => rfl
  | succ n => exact if_pos h

/-- The running maximum within a super-group. -/
theorem runMax_fold (c : Dev nD) (t : Fin cfg0.N) (h : ¬t.val % 7 = 0) :
    runMax V c t.val t.isLt = k0_pay1 (k0_pay3 (grid0.coords t) (blk0 V c 0 t) (blk0 V c 1 t))
      (runMax V c (t.val - 1) (Nat.lt_of_le_of_lt (Nat.sub_le _ _) t.isLt)) := by
  obtain ⟨n, hn⟩ := t
  cases n with
  | zero => exact absurd (Nat.zero_mod _) h
  | succ n => exact if_neg h

/-- The proof data of the similarity pipeline: the arrays as entered, each input's block in place, and the three outputs'
    contents after each point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay2 (grid0.coords t) (blk0 V c 0 t) (blk0 V c 1 t)
    | ⟨3, _⟩ => k0_pay3 (grid0.coords t) (blk0 V c 0 t) (blk0 V c 1 t)
    | ⟨4, _⟩ => runMax V c t.val t.isLt
  Φ _ := Pipeline.ΦA spec0 c
  q _ := fullShare
  owed _ := 0

/-- The arrays as entered. -/
theorem entry0 (c : Dev nD) (w : Fin cfg0.W) : (dat0 V c).A w = V c (Pipeline.arrRef spec0 w) := by dsimp only [dat0]
/-- What window 0 holds after a point. -/
theorem after0_0 (c : Dev nD) (t : Fin cfg0.N) : (dat0 V c).after 0 t = blk0 V c 0 t := by dsimp only [dat0]
/-- What window 1 holds after a point. -/
theorem after0_1 (c : Dev nD) (t : Fin cfg0.N) : (dat0 V c).after 1 t = blk0 V c 1 t := by dsimp only [dat0]
/-- What window 2 holds after a point. -/
theorem after0_2 (c : Dev nD) (t : Fin cfg0.N) : (dat0 V c).after 2 t = k0_pay2 (grid0.coords t) (blk0 V c 0 t) (blk0 V c 1 t) := by dsimp only [dat0]
/-- What window 3 holds after a point. -/
theorem after0_3 (c : Dev nD) (t : Fin cfg0.N) : (dat0 V c).after 3 t = k0_pay3 (grid0.coords t) (blk0 V c 0 t) (blk0 V c 1 t) := by dsimp only [dat0]
/-- What window 4 holds after a point. -/
theorem after0_4 (c : Dev nD) (t : Fin cfg0.N) : (dat0 V c).after 4 t = runMax V c t.val t.isLt := by dsimp only [dat0]

/-- Before the body runs, input window 0 holds its block at every point. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [entry0]; try rfl) t d).trans
    (by unfold Dat.fetched Dat.blockOf blk0; rw [entry0]; try rfl)

/-- Before the body runs, input window 1 holds its block at every point. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [entry0]; try rfl) t d).trans
    (by unfold Dat.fetched Dat.blockOf blk0; rw [entry0]; try rfl)

/-- Inside a supergroup, window 4's buffer holds the running maximum of the point before. -/
theorem before0_4 (c : Dev nD) (t : Fin cfg0.N) (h : ¬t.val % 7 = 0) (d) :
    (dat0 V c).before 4 t d = runMax V c (t.val - 1) (Nat.lt_of_le_of_lt (Nat.sub_le _ _) t.isLt) := by
  rw [Dat.before_out_traj _ 4 rfl (fun _ _ => rfl) (fun t _ hi _ => absurd ((live0_4 t).symm.trans hi) Bool.false_ne_true) t.val t rfl d,
    if_neg (by rw [fresh0_4 t]; simpa [unwritten] using h)]
  dsimp only [dat0]

/-! ## The body obligation -/

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 800000 in
/-- The body at any point takes `pre0` to `post0`. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    show (dat0 V c).leavesExact 0 t = owns (c : Thread nD τ) (st0_0 t) fullShare ((dat0 V c).after 0 t) from by
      unfold Dat.leavesExact; rw [show cfg0.idle 0 (grid0.coords t) = false from rfl],
    show (dat0 V c).leavesExact 1 t = owns (c : Thread nD τ) (st0_1 t) fullShare ((dat0 V c).after 1 t) from by
      unfold Dat.leavesExact; rw [show cfg0.idle 1 (grid0.coords t) = false from rfl],
    show (dat0 V c).leavesExact 2 t = owns (c : Thread nD τ) (st0_2 t) fullShare ((dat0 V c).after 2 t) from by
      unfold Dat.leavesExact; rw [show cfg0.idle 2 (grid0.coords t) = false from rfl],
    show (dat0 V c).leavesExact 3 t = owns (c : Thread nD τ) (st0_3 t) fullShare ((dat0 V c).after 3 t) from by
      unfold Dat.leavesExact; rw [show cfg0.idle 3 (grid0.coords t) = false from rfl],
    show (dat0 V c).leavesExact 4 t = owns (c : Thread nD τ) (st0_4 t) fullShare ((dat0 V c).after 4 t) from by
      unfold Dat.leavesExact; rw [live0_4 t],
    after0_0, after0_1, after0_2, after0_3, after0_4]
  by_cases h : t.val % 7 = 0
  · rw [runMax_start V c t h]
    iintro ⟨HΦ, Ho, ⟨%d0, H0⟩, ⟨%d1, H1⟩, ⟨%d2, H2⟩, ⟨%d3, H3⟩, ⟨%d4, H4⟩⟩
    iapply (sim_start c Set.univ (grid0.coords t) _ _ _ _ _ _ _ _ _ _ ((starts t).mpr h) (fun e => (folds t).mp e h) (blk0 V c 0 t) (blk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [runMax_fold V c t h]
    simp only [before0_4 V c t h]
    iintro ⟨HΦ, Ho, ⟨%d0, H0⟩, ⟨%d1, H1⟩, ⟨%d2, H2⟩, ⟨%d3, H3⟩, ⟨%d4, H4⟩⟩
    iapply (sim_fold c Set.univ (grid0.coords t) _ _ _ _ _ _ _ _ _ _ (fun e => h ((starts t).mp e)) ((folds t).mpr h) (blk0 V c 0 t) (blk0 V c 1 t) _ _)
    isplitl [H0]; · iexact H0
    isplitl [H1]; · iexact H1
    isplitl [H2]; · iexists _; iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The similarity pipeline's body obligation, at every point. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body0 V c t) rfl .rfl fun _ => .rfl

end

end Cert.KernelIdeal.Launch

end
-- ==== Proof.KernelIdealCall1.lean ====
/- Of the idealized kernel. The voting launch: its body's triple, and what its windows hold after each grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- The zero offsets. -/
private theorem z2 : (![0, 0] : Fin 2 → ℕ) = fun _ => 0 := by decide

/-! ## The windows' blocks -/

/-- Window `w`'s block at point `t`, read off the array the region is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's triple -/

set_option maxHeartbeats 1000000 in
/-- The voting body leaves the three running vote sums of its block of queries. -/
theorem vote_triple (c : Dev nD) (E : Set ℕ) (i : grid1.Coords) (arg1 : Memref sig .tc .vmem S8x128 .f32) (harg1 : arg1.IsWhole) (arg2 : Memref sig .tc .vmem S8x128 .i32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S8x1024 .f32) (harg5 : arg5.IsWhole)
    (x0 : Vec F S8x128 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (k1_pay2 x0 x1) ∗ owns (c : Thread nD τ) arg4 fullShare (k1_pay3 x0 x1) ∗ owns (c : Thread nD τ) arg5 fullShare (k1_pay4 x0 x1)) -∗ K ⟨⟩))
      ⊢ wp frame (wpE (defs₀ (F := F)) Variants.none c none) E (cc1__vote_kernel i arg1 harg1 arg2 harg2 arg3 harg3 arg4 harg4 arg5 harg5) K := by
  simp only [cc1__vote_kernel_eq_skeleton]; unfold cc1__vote_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (View.read_writes_eq_canon _ _ _ (fun y => View.cover_of_tiled [⟨Rect.unit (s := S8x1024) ![0, 0] S8x1024.size inb_S8x1024_S8x1024_0_0, _⟩] S8x1024.size (by rfl) y)).trans ?_
    refine (View.canon_unit_zero z2 _ _).trans ?_
    exact congrArg₂ k1_pay2 ((congrArg (fun g => View.ld g _) (harg1.read_unread _)).trans (View.ld_unit_zero (S := S8x128) z2 _ _)) ((congrArg (fun g => View.ld g _) (harg2.read_unread _)).trans (View.ld_unit_zero (S := S8x128) z2 _ _))
  isplitl [H3]
  · iexists _; isplitr
    swap; · iexact H3
    ipureintro
    refine (View.read_writes_eq_canon _ _ _ (fun y => View.cover_of_tiled [⟨Rect.unit (s := S8x1024) ![0, 0] S8x1024.size inb_S8x1024_S8x1024_0_0, _⟩] S8x1024.size (by rfl) y)).trans ?_
    refine (View.canon_unit_zero z2 _ _).trans ?_
    exact congrArg₂ k1_pay3 ((congrArg (fun g => View.ld g _) (harg1.read_unread _)).trans (View.ld_unit_zero (S := S8x128) z2 _ _)) ((congrArg (fun g => View.ld g _) (harg2.read_unread _)).trans (View.ld_unit_zero (S := S8x128) z2 _ _))
  · iexists _; isplitr
    swap; · iexact H4
    ipureintro
    refine (View.read_writes_eq_canon _ _ _ (fun y => View.cover_of_tiled [⟨Rect.unit (s := S8x1024) ![0, 0] S8x1024.size inb_S8x1024_S8x1024_0_0, _⟩] S8x1024.size (by rfl) y)).trans ?_
    refine (View.canon_unit_zero z2 _ _).trans ?_
    exact congrArg₂ k1_pay4 ((congrArg (fun g => View.ld g _) (harg1.read_unread _)).trans (View.ld_unit_zero (S := S8x128) z2 _ _)) ((congrArg (fun g => View.ld g _) (harg2.read_unread _)).trans (View.ld_unit_zero (S := S8x128) z2 _ _))

/-! ## The proof data -/

/-- The proof data of the voting pipeline. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay2 (blk1 V c 0 t) (blk1 V c 1 t)
    | ⟨3, _⟩ => k1_pay3 (blk1 V c 0 t) (blk1 V c 1 t)
    | ⟨4, _⟩ => k1_pay4 (blk1 V c 0 t) (blk1 V c 1 t)
  Φ _ := Pipeline.ΦA spec1 c
  q _ := fullShare
  owed _ := 0

/-- The arrays as entered. -/
theorem entry1 (c : Dev nD) (w : Fin cfg1.W) : (dat1 V c).A w = V c (Pipeline.arrRef spec1 w) := by dsimp only [dat1]
/-- What window 0 holds after a point. -/
theorem after1_0 (c : Dev nD) (t : Fin cfg1.N) : (dat1 V c).after 0 t = blk1 V c 0 t := by dsimp only [dat1]
/-- What window 1 holds after a point. -/
theorem after1_1 (c : Dev nD) (t : Fin cfg1.N) : (dat1 V c).after 1 t = blk1 V c 1 t := by dsimp only [dat1]
/-- What window 2 holds after a point. -/
theorem after1_2 (c : Dev nD) (t : Fin cfg1.N) : (dat1 V c).after 2 t = k1_pay2 (blk1 V c 0 t) (blk1 V c 1 t) := by dsimp only [dat1]
/-- What window 3 holds after a point. -/
theorem after1_3 (c : Dev nD) (t : Fin cfg1.N) : (dat1 V c).after 3 t = k1_pay3 (blk1 V c 0 t) (blk1 V c 1 t) := by dsimp only [dat1]
/-- What window 4 holds after a point. -/
theorem after1_4 (c : Dev nD) (t : Fin cfg1.N) : (dat1 V c).after 4 t = k1_pay4 (blk1 V c 0 t) (blk1 V c 1 t) := by dsimp only [dat1]

/-- Before the body runs, input window 0 holds its block at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [entry1]; try rfl) t d).trans
    (by unfold Dat.fetched Dat.blockOf blk1; rw [entry1]; try rfl)

/-- Before the body runs, input window 1 holds its block at every point. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [entry1]; try rfl) t d).trans
    (by unfold Dat.fetched Dat.blockOf blk1; rw [entry1]; try rfl)

/-! ## The body obligation -/

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point takes `pre1` to `post1`. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (vote_triple c Set.univ (grid1.coords t) _ _ _ _ _ _ _ _ _ _ (blk1 V c 0 t) (blk1 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The voting pipeline's body obligation, at every point. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (body1 V c t) rfl .rfl fun _ => .rfl

end

end Cert.KernelIdeal.Launch

end
-- ==== Proof.KernelIdealRun.lean ====
/- Of the idealized kernel. The whole run: both launches and the host lines between them, and the frame that follows. -/
module

public import proofs.«01_k».proof.Proof.KernelIdealCall0
public import proofs.«01_k».proof.Proof.KernelIdealCall1
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents the regions leave -/

/-- The contents that buffers are left with when nothing is known of them yet: the launch contents. -/
abbrev outsNone : Outs (F := F) := fun _ r c => m ((c : Thread nD τ).loc r)
/-- What the similarity region leaves in the buffers it may change. -/
def outs0 : Outs (F := F) := fun _ r c =>
  Pipeline.withArrays spec0 c (V4 m c) (fun w => (dat0 (fun c b => V4 m c b) c).arrAt w cfg0.N) r
/-- What both regions leave: after item 5 the similarity region's arrays, later the voting region's. -/
def outs : Outs (F := F) := fun n r c =>
  if n = 5 then outs0 m n r c
  else Pipeline.withArrays spec1 c (V26 m (outs0 m) c) (fun w => (dat1 (fun c b => V26 m (outs0 m) c b) c).arrAt w cfg1.N) r

/-- The contents after the similarity region (and so every later boundary up to the voting region) do not depend on
    what the voting region leaves. -/
theorem V5_outs (c : Dev nD) : V5 m (outs m) c = V5 m (outs0 m) c := rfl
/-- The contents entering the voting region, likewise. -/
theorem V26_outs (c : Dev nD) : V26 m (outs m) c = V26 m (outs0 m) c := by
  rfl

/-- Every pipeline's proof data, at its region's entry contents. -/
def pdats : (p : Fin 2) → (c : Dev nD) → Dat τ (Elt F) Unit ℕ (UR sig nD τ) ℕ (Pipeline.pin (pcfgs (F := F)) adm p) c
  | ⟨0, _⟩ => fun c => dat0 (fun c b => V4 m c b) c
  | ⟨1, _⟩ => fun c => dat1 (fun c b => V26 m (outs m) c b) c

/-- No levels. -/
abbrev noLevels : GSem nD τ sig → Finset Unit := fun _ => ∅
/-- No levels' heights. -/
abbrev lv₀ : GSem nD τ sig → Unit → ℕ := fun _ _ => 0
/-- What rides along through every segment: the generator register, and the core owing nothing. -/
abbrev rest (c : Dev nD) : sProp 𝕄 := iprop((∃ r, prngReg c r) ∗ ∃ W, owes (c : Thread nD τ) (0 : CellTallies nD τ sig Unit) W)

/-- What the similarity region leaves. -/
theorem outs5 (r : Ref sig .tc) (c : Dev nD) : outs m 5 r c =
    Pipeline.withArrays spec0 c (V4 m c) (fun w => (dat0 (fun c b => V4 m c b) c).arrAt w cfg0.N) r := rfl
/-- What the voting region leaves. -/
theorem outs27 (r : Ref sig .tc) (c : Dev nD) : outs m 27 r c =
    Pipeline.withArrays spec1 c (V26 m (outs m) c) (fun w => (dat1 (fun c b => V26 m (outs m) c b) c).arrAt w cfg1.N) r := by
  simp only [V26_outs]
  rfl

/-- The similarity region's output 0 among its three. -/
theorem read5_0 (v : Valuation τ sig (Elt F)) (x y z) :
    Function.update (Function.update (Function.update v main_v3_0 x) main_v3_1 y) main_v3_2 z (Proc.devRef .tc main_v3_0) = x :=
  (Function.update_of_ne (StableHlo.devRef_ne_of_ne (by decide) : (Proc.devRef .tc main_v3_0 : DevRef τ sig) ≠ Proc.devRef .tc main_v3_2) _ _).trans ((Function.update_of_ne (StableHlo.devRef_ne_of_ne (by decide) : (Proc.devRef .tc main_v3_0 : DevRef τ sig) ≠ Proc.devRef .tc main_v3_1) _ _).trans (Function.update_self _ _ _))
/-- The similarity region's output 1 among its three. -/
theorem read5_1 (v : Valuation τ sig (Elt F)) (x y z) :
    Function.update (Function.update (Function.update v main_v3_0 x) main_v3_1 y) main_v3_2 z (Proc.devRef .tc main_v3_1) = y :=
  (Function.update_of_ne (StableHlo.devRef_ne_of_ne (by decide) : (Proc.devRef .tc main_v3_1 : DevRef τ sig) ≠ Proc.devRef .tc main_v3_2) _ _).trans (Function.update_self _ _ _)
/-- The similarity region's output 2 among its three. -/
theorem read5_2 (v : Valuation τ sig (Elt F)) (x y z) :
    Function.update (Function.update (Function.update v main_v3_0 x) main_v3_1 y) main_v3_2 z (Proc.devRef .tc main_v3_2) = z :=
  Function.update_self _ _ _
/-- The array `r` of an output window of region 0 is left at what the region's write-backs make it. -/
theorem outs5_arr (c : Dev nD) (w : Fin cfg0.W) : outs m 5 (Pipeline.arrRef spec0 w) c = (pdats m 0 c).arrAt w cfg0.N := by
  rw [outs5]; exact Pipeline.withArrays_arr spec0 launch0.win.arr_inj c _ _ w
set_option maxHeartbeats 4000000 in
/-- Region 0's arrays after it. -/
theorem left0 (c : Dev nD) (w : Fin cfg0.W) : (pdats m 0 c).arrAt w cfg0.N = V5 m (outs m) c (Proc.devRef .tc (Pipeline.arrRef spec0 w)) := by
  have hin : ∀ w : Fin cfg0.W, (cfg0.win w).isOut = false → Pipeline.arrRef spec0 w ∉ ([main_v3_0, main_v3_1, main_v3_2] : List (Ref sig .tc)) →
      (pdats m 0 c).arrAt w cfg0.N = V5 m (outs m) c (Proc.devRef .tc (Pipeline.arrRef spec0 w)) := fun w hw hn => by
    rw [V5_of m (outs m) c _ hn]
    exact ((pdats m 0 c).arrAt_in w hw _).trans (entry0 (fun c b => V4 m c b) c w)
  match w with
  | ⟨0, _⟩ => exact hin 0 rfl (by decide)
  | ⟨1, _⟩ => exact hin 1 rfl (by decide)
  | ⟨2, _⟩ =>
    have e : V5 m (outs m) c (Proc.devRef .tc main_v3_0) = outs m 5 main_v3_0 c := read5_0 _ _ _ _
    exact (outs5_arr m c 2).symm.trans e.symm
  | ⟨3, _⟩ =>
    have e : V5 m (outs m) c (Proc.devRef .tc main_v3_1) = outs m 5 main_v3_1 c := read5_1 _ _ _ _
    exact (outs5_arr m c 3).symm.trans e.symm
  | ⟨4, _⟩ =>
    have e : V5 m (outs m) c (Proc.devRef .tc main_v3_2) = outs m 5 main_v3_2 c := read5_2 _ _ _ _
    exact (outs5_arr m c 4).symm.trans e.symm
/-- A buffer that is none of region 0's arrays keeps its contents. -/
theorem kept0 (c : Dev nD) : ∀ b : Ref sig .tc, (∀ w, Pipeline.arrRef spec0 w ≠ b) → V5 m (outs m) c (Proc.devRef .tc b) = V4 m c (Proc.devRef .tc b) :=
  fun b hb => V5_of m (outs m) c b (by
    simp only [List.mem_cons, List.not_mem_nil, or_false, not_or]
    exact ⟨fun e => hb 2 e.symm, fun e => hb 3 e.symm, fun e => hb 4 e.symm⟩)

/-- The voting region's output 0 among its three. -/
theorem read27_0 (v : Valuation τ sig (Elt F)) (x y z) :
    Function.update (Function.update (Function.update v main_v42_0 x) main_v42_1 y) main_v42_2 z (Proc.devRef .tc main_v42_0) = x :=
  (Function.update_of_ne (StableHlo.devRef_ne_of_ne (by decide) : (Proc.devRef .tc main_v42_0 : DevRef τ sig) ≠ Proc.devRef .tc main_v42_2) _ _).trans ((Function.update_of_ne (StableHlo.devRef_ne_of_ne (by decide) : (Proc.devRef .tc main_v42_0 : DevRef τ sig) ≠ Proc.devRef .tc main_v42_1) _ _).trans (Function.update_self _ _ _))
/-- The voting region's output 1 among its three. -/
theorem read27_1 (v : Valuation τ sig (Elt F)) (x y z) :
    Function.update (Function.update (Function.update v main_v42_0 x) main_v42_1 y) main_v42_2 z (Proc.devRef .tc main_v42_1) = y :=
  (Function.update_of_ne (StableHlo.devRef_ne_of_ne (by decide) : (Proc.devRef .tc main_v42_1 : DevRef τ sig) ≠ Proc.devRef .tc main_v42_2) _ _).trans (Function.update_self _ _ _)
/-- The voting region's output 2 among its three. -/
theorem read27_2 (v : Valuation τ sig (Elt F)) (x y z) :
    Function.update (Function.update (Function.update v main_v42_0 x) main_v42_1 y) main_v42_2 z (Proc.devRef .tc main_v42_2) = z :=
  Function.update_self _ _ _
/-- The array `r` of an output window of region 1 is left at what the region's write-backs make it. -/
theorem outs27_arr (c : Dev nD) (w : Fin cfg1.W) : outs m 27 (Pipeline.arrRef spec1 w) c = (pdats m 1 c).arrAt w cfg1.N := by
  rw [outs27]; exact Pipeline.withArrays_arr spec1 launch1.win.arr_inj c _ _ w
set_option maxHeartbeats 4000000 in
/-- Region 1's arrays after it. -/
theorem left1 (c : Dev nD) (w : Fin cfg1.W) : (pdats m 1 c).arrAt w cfg1.N = V27 m (outs m) c (Proc.devRef .tc (Pipeline.arrRef spec1 w)) := by
  have hin : ∀ w : Fin cfg1.W, (cfg1.win w).isOut = false → Pipeline.arrRef spec1 w ∉ ([main_v42_0, main_v42_1, main_v42_2] : List (Ref sig .tc)) →
      (pdats m 1 c).arrAt w cfg1.N = V27 m (outs m) c (Proc.devRef .tc (Pipeline.arrRef spec1 w)) := fun w hw hn => by
    rw [V27_of m (outs m) c _ hn]
    exact ((pdats m 1 c).arrAt_in w hw _).trans (entry1 (fun c b => V26 m (outs m) c b) c w)
  match w with
  | ⟨0, _⟩ => exact hin 0 rfl (by decide)
  | ⟨1, _⟩ => exact hin 1 rfl (by decide)
  | ⟨2, _⟩ =>
    have e : V27 m (outs m) c (Proc.devRef .tc main_v42_0) = outs m 27 main_v42_0 c := read27_0 _ _ _ _
    exact (outs27_arr m c 2).symm.trans e.symm
  | ⟨3, _⟩ =>
    have e : V27 m (outs m) c (Proc.devRef .tc main_v42_1) = outs m 27 main_v42_1 c := read27_1 _ _ _ _
    exact (outs27_arr m c 3).symm.trans e.symm
  | ⟨4, _⟩ =>
    have e : V27 m (outs m) c (Proc.devRef .tc main_v42_2) = outs m 27 main_v42_2 c := read27_2 _ _ _ _
    exact (outs27_arr m c 4).symm.trans e.symm
/-- A buffer that is none of region 1's arrays keeps its contents. -/
theorem kept1 (c : Dev nD) : ∀ b : Ref sig .tc, (∀ w, Pipeline.arrRef spec1 w ≠ b) → V27 m (outs m) c (Proc.devRef .tc b) = V26 m (outs m) c (Proc.devRef .tc b) :=
  fun b hb => V27_of m (outs m) c b (by
    simp only [List.mem_cons, List.not_mem_nil, or_false, not_or]
    exact ⟨fun e => hb 2 e.symm, fun e => hb 3 e.symm, fun e => hb 4 e.symm⟩)

-- the library lemmas of this record are stated over the pinned configuration
set_option backward.isDefEq.respectTransparency.types false in
/-- Region 0 as a segment: entered from every unscoped buffer at `V4 m`, left at `V5 m (outs m)`. -/
def reg0 : Pipeline.RegionSeg (pcfgs (F := F)) adm (pdats m) () defs₀ Variants.none noLevels lv₀ 0 where
  win := launch0.win.to₀
  block_pos := launch0.block_pos
  stage_whole := launch0.stage_whole
  K := PEmpty
  osem k := k.elim
  ho := Pipeline.OwnSemFacts.none _
  hbody c := (obligation0 (fun c b => V4 m c b) c).loose
  hwaits := Pipeline.hwaits_of_owed_zero _ _ _ _ noLevels lv₀ 0 fun _ _ => rfl
  pre c := iprop(StableHlo.held (c : Thread nD τ) (Pipeline.ucRefs τ sig) (V4 m c) ∗ rest c)
  post c := iprop(StableHlo.held (c : Thread nD τ) (Pipeline.ucRefs τ sig) (V5 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (fun b => V4 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V4 m c b) (entry0 (fun c b => V4 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V4 m c b) (fun b => V5 m (outs m) c b) ((pdats m 0 c).arrAt · cfg0.N) (left0 m c)
      (fun b hb => kept0 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas of this record are stated over the pinned configuration
set_option backward.isDefEq.respectTransparency.types false in
/-- Region 1 as a segment: entered from every unscoped buffer at `V26 m (outs m)`, left at `V27 m (outs m)`. -/
def reg1 : Pipeline.RegionSeg (pcfgs (F := F)) adm (pdats m) () defs₀ Variants.none noLevels lv₀ 1 where
  win := launch1.win.to₀
  block_pos := launch1.block_pos
  stage_whole := launch1.stage_whole
  K := PEmpty
  osem k := k.elim
  ho := Pipeline.OwnSemFacts.none _
  hbody c := (obligation1 (fun c b => V26 m (outs m) c b) c).loose
  hwaits := Pipeline.hwaits_of_owed_zero _ _ _ _ noLevels lv₀ 1 fun _ _ => rfl
  pre c := iprop(StableHlo.held (c : Thread nD τ) (Pipeline.ucRefs τ sig) (V26 m (outs m) c) ∗ rest c)
  post c := iprop(StableHlo.held (c : Thread nD τ) (Pipeline.ucRefs τ sig) (V27 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (fun b => V26 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V26 m (outs m) c b) (entry1 (fun c b => V26 m (outs m) c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V26 m (outs m) c b) (fun b => V27 m (outs m) c b) ((pdats m 1 c).arrAt · cfg1.N) (left1 m c)
      (fun b hb => kept1 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- @main's segments. -/
abbrev mainSegs (c : Dev nD) : List (Pipeline.Seg (pcfgs (F := F)) adm (pdats m) () defs₀ Variants.none noLevels lv₀) :=
  segs m (outs m) Variants.none noLevels lv₀ (fun _ c => rest c) () (pdats m) (reg0 m) (reg1 m) c

-- the kit's implicit arguments are found by unifying its conclusion with this one
set_option backward.isDefEq.respectTransparency.types false in
/-- From any memory with zero counters, every weakly fair execution of @main terminates without a fault, and every final
    state has each unscoped buffer at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = V28 m (outs m) c b) ∧ r.2.sem = fun _ => 0) :=
  Pipeline.θ_run_regions_kit_dev_sems (pcfgs (F := F)) adm (pdats m) () cellOf_inj emb₁ defs₀ Variants.none noLevels lv₀ m ρ main
    (mainSegs m)
    (fun c Q => by
      rewrite [main_chain c, Pipeline.Seg.run_eq_chain, show (mainSegs m c).map Pipeline.Seg.prog = [StableHlo.seq hostOps0, StableHlo.seq hostOps0_1, StableHlo.seq hostOps0_2, StableHlo.seq hostOps0_3, Prog.lift (.customCall (Pipeline.entry 0) ()), StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10, StableHlo.seq hostOps1_11, StableHlo.seq hostOps1_12, StableHlo.seq hostOps1_13, StableHlo.seq hostOps1_14, StableHlo.seq hostOps1_15, StableHlo.seq hostOps1_16, StableHlo.seq hostOps1_17, StableHlo.seq hostOps1_18, StableHlo.seq hostOps1_19, StableHlo.seq hostOps1_20, Prog.lift (.customCall (Pipeline.entry 1) ()), StableHlo.seq hostOps2] from rfl]
      dsimp (config := { failIfUnchanged := false }) only
      exact .rfl)
    (fun c => by simp only [mainSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => iprop(StableHlo.held (c : Thread nD τ) (Pipeline.ucRefs τ sig) (V28 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, by
      dsimp only [Pipeline.Seg.post, seg27, Pipeline.HostSeg.ofOps, Pipeline.Seg.ChainsAt]
      iintro ⟨Hh, Hp, HO⟩
      isplitl [Hh Hp]
      · isplitl [Hh]; · iexact Hh
        iexact Hp
      iexact HO⟩)
    (hinit := by
      refine Pipeline.initEach noLevels lv₀ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V28 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V28 m (outs m) c) s')
      isplitl [Hh] <;> iassumption)
    (hQ := fun s h hz => ⟨h, funext fun g => hz g (.inr (regions_no_unscoped g.2))⟩)

/-- An unscoped reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every execution ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (mem_uc main_arg0 (by decide))).trans (V28_main_arg0 m (outs m) c),
     (h.1 c _ (mem_uc main_arg1 (by decide))).trans (V28_main_arg1 m (outs m) c),
     (h.1 c _ (mem_uc main_arg2 (by decide))).trans (V28_main_arg2 m (outs m) c)⟩, h.2⟩) (run m ρ)

end Cert.KernelIdeal.Launch

end
-- ==== Proof.Voting.lean ====
/- The weights of the votes and their tally, as both programs compute them over the extended reals. -/
module

public import Idealize.ShloMosaic.Lib.Pipeline.ValueKit

@[expose] public section

noncomputable section

namespace Cert.Voting

open Idealize.ShloMosaic

/-- The share of the value `z` among a hundred scaled similarities: its part of their exponentials, taken below the greatest. -/
def share (s : Fin 100 → EReal) (z : EReal) : EReal :=
  Ideal.div (Ideal.exp (z - (Finset.univ : Finset (Fin 100)).fold max ⊥ s))
    (∑ x : Fin 100, Ideal.exp (s x - (Finset.univ : Finset (Fin 100)).fold max ⊥ s))

/-- The weight of place `j` among a hundred scaled similarities. -/
def weight (s : Fin 100 → EReal) (j : Fin 100) : EReal := share s (s j)

/-- The votes of the first `k` places for class `l`. -/
def tally (k : ℕ) (hk : k ≤ 100) (s : Fin 100 → EReal) (lab : Fin 100 → BitVec 32) (l : ℕ) : EReal :=
  ∑ j : Fin k, if lab (j.castLE hk) = BitVec.ofNat 32 l then weight s (j.castLE hk) else 0

/-- The tally of the first twenty places out of two runs of ten. -/
theorem tally_twenty (s : Fin 100 → EReal) (lab : Fin 100 → BitVec 32) (l : ℕ) :
    tally 20 (by omega) s lab l = tally 10 (by omega) s lab l
      + ∑ j : Fin 10, if lab ⟨10 + j.val, by omega⟩ = BitVec.ofNat 32 l then weight s ⟨10 + j.val, by omega⟩ else 0 := by
  unfold tally
  exact Fin.sum_univ_add (a := 10) (b := 10) (fun j : Fin 20 =>
    if lab (j.castLE (by omega)) = BitVec.ofNat 32 l then weight s (j.castLE (by omega)) else 0)

/-- The tally of all places out of the first twenty and the other eighty. -/
theorem tally_hundred (s : Fin 100 → EReal) (lab : Fin 100 → BitVec 32) (l : ℕ) :
    tally 100 (by omega) s lab l = tally 20 (by omega) s lab l
      + ∑ j : Fin 80, if lab ⟨20 + j.val, by omega⟩ = BitVec.ofNat 32 l then weight s ⟨20 + j.val, by omega⟩ else 0 := by
  unfold tally
  exact Fin.sum_univ_add (a := 20) (b := 80) (fun j : Fin 100 =>
    if lab (j.castLE (by omega)) = BitVec.ofNat 32 l then weight s (j.castLE (by omega)) else 0)

end Cert.Voting
-- ==== Proof.Ranking.lean ====
/- Rankings of a row: the positions that a stable top-k lists, what can be said of them by the values alone, and why a
   candidate set that a ranking of maxima picks keeps every position of small rank. -/
module

public import Idealize.ShloMosaic.PureOps.Ideal
public import Idealize.ShloMosaic.PureOps.Ideal.Laws
public import Idealize.ShloMosaic.Lib.ValueIdx
public import Idealize.ShloMosaic.Lib.SortPrefix

@[expose] public section

noncomputable section

namespace Cert.Ranking

open Idealize.ShloMosaic Idealize.ShloMosaic.ValueIdx

/-! ## The order of a row -/

variable {α : Type} [LinearOrder α]

/-- The positions of a row, greatest value first and equal values in position order. -/
def order {n : Nat} (x : Fin n → α) : Fin n → Fin n := sortedFrom fun a b => decide (x b < x a)

/-- Inserting a position into a list keeps the list's positions, up to order. -/
theorem insert_perm {ι : Type} (before : ι → ι → Bool) (a : ι) (l : List ι) : (insertBefore before a l).Perm (a :: l) := by
  induction l with
  | nil => exact List.Perm.refl _
  | cons b l ih =>
    unfold insertBefore
    split
    · exact (ih.cons b).trans (List.Perm.swap a b l)
    · exact List.Perm.refl _

/-- The sort lists the positions that it is given. -/
theorem sort_perm {ι : Type} (before : ι → ι → Bool) (l : List ι) : (stableSort before l).Perm l := by
  induction l with
  | nil => exact List.Perm.refl _
  | cons a l ih => exact (insert_perm before a _).trans (ih.cons a)

/-- A list in descending order stays so when a position is inserted. -/
theorem insert_descending {ι : Type} (x : ι → α) (a : ι) (l : List ι) (h : l.Pairwise fun i j => x j ≤ x i) :
    (insertBefore (fun i j => decide (x j < x i)) a l).Pairwise fun i j => x j ≤ x i := by
  induction l with
  | nil => exact List.pairwise_singleton _ _
  | cons b l ih =>
    rw [List.pairwise_cons] at h
    unfold insertBefore
    split
    · rename_i hb
      rw [decide_eq_true_eq] at hb
      refine List.pairwise_cons.mpr ⟨fun j hj => ?_, ih h.2⟩
      rcases List.mem_cons.mp ((insert_perm _ a l).mem_iff.mp hj) with rfl | hj
      · exact hb.le
      · exact h.1 j hj
    · rename_i hb
      rw [decide_eq_true_eq, not_lt] at hb
      refine List.pairwise_cons.mpr ⟨fun j hj => ?_, List.pairwise_cons.mpr h⟩
      rcases List.mem_cons.mp hj with rfl | hj
      · exact hb
      · exact (h.1 j hj).trans hb

/-- The sorted list is in descending order. -/
theorem sort_descending {ι : Type} (x : ι → α) (l : List ι) :
    (stableSort (fun i j => decide (x j < x i)) l).Pairwise fun i j => x j ≤ x i := by
  induction l with
  | nil => exact List.Pairwise.nil
  | cons a l ih => exact insert_descending x a _ ih

/-- No position is listed twice. -/
theorem order_injective {n : Nat} (x : Fin n → α) : Function.Injective (order x) := fun a b h => by
  have hn : (sortPositions n fun a b => decide (x b < x a)).Nodup := (sort_perm _ _).nodup_iff.mpr (List.nodup_finRange n)
  exact Fin.ext (Fin.mk.inj_iff.mp (List.nodup_iff_injective_get.mp hn h))

/-- Every position is listed. -/
theorem order_surjective {n : Nat} (x : Fin n → α) : Function.Surjective (order x) :=
  Finite.surjective_of_injective (order_injective x)

/-- Values descend along the listing. -/
theorem order_antitone {n : Nat} (x : Fin n → α) : Antitone fun j => x (order x j) := fun a b hab => by
  rcases hab.lt_or_eq with h | rfl
  · exact List.pairwise_iff_get.mp (sort_descending x (List.finRange n)) _ _ h
  · exact le_rfl

/-- A position that is not among the first `k` of the listing has no greater value than any of these. -/
theorem order_top {n k : Nat} (hk : k ≤ n) (x : Fin n → α) (u : Fin n) (hu : u ∉ Set.range fun j : Fin k => order x (j.castLE hk))
    (j : Fin k) : x u ≤ x (order x (j.castLE hk)) := by
  obtain ⟨v, rfl⟩ := order_surjective x u
  refine order_antitone x ?_
  rw [Fin.le_def]
  by_contra h
  exact hu ⟨⟨v.val, (not_le.mp h).trans j.isLt⟩, rfl⟩

/-! ## Candidate sets -/

/-- The candidate step. Let `v` give each block `u` a value that one of its own columns `col u` attains. If fewer than `k`
    columns have a value as large as column `c`'s, then every block whose value is as large is among the first `k` blocks. -/
theorem block_mem {ι κ : Type} [Fintype ι] {k : Nat} (S : ι → α) (v : κ → α) (col : κ → ι) (hcol : Function.Injective col)
    (hval : ∀ u, S (col u) = v u) (p : Fin k → κ) (hp : Function.Injective p) (htop : ∀ u, u ∉ Set.range p → ∀ j, v u ≤ v (p j))
    (c : ι) (hrank : (Finset.univ.filter fun d => S c ≤ S d).card < k) (u : κ) (hu : S c ≤ v u) : u ∈ Set.range p := by
  classical
  by_contra h
  refine absurd hrank (not_lt.mpr ?_)
  calc k = (Finset.univ : Finset (Fin k)).card := (Finset.card_fin k).symm
    _ = ((Finset.univ : Finset (Fin k)).image fun j => col (p j)).card :=
        (Finset.card_image_of_injective _ (hcol.comp hp)).symm
    _ ≤ _ := Finset.card_le_card fun d hd => by
        obtain ⟨j, -, rfl⟩ := Finset.mem_image.mp hd
        exact Finset.mem_filter.mpr ⟨Finset.mem_univ _, (hu.trans (htop u h j)).trans (hval (p j)).ge⟩

/-- A set of places has no injection into a smaller one. -/
theorem no_squeeze {k : Nat} (σ : Fin k → Fin k) (hσ : Function.Injective σ) (p q : Fin k → Prop) (hqp : ∀ i, q i → p i)
    (j : Fin k) (hj : p j) (hj' : ¬ q j) (h : ∀ i, p i → q (σ i)) : False := by
  classical
  have h1 : ((Finset.univ.filter p).image σ).card ≤ (Finset.univ.filter q).card := Finset.card_le_card fun d hd => by
    obtain ⟨i, hi, rfl⟩ := Finset.mem_image.mp hd
    exact Finset.mem_filter.mpr ⟨Finset.mem_univ _, h i (Finset.mem_filter.mp hi).2⟩
  rw [Finset.card_image_of_injective _ hσ] at h1
  refine absurd (Finset.card_lt_card (Finset.ssubset_iff_of_subset (fun i hi => ?_) |>.mpr ⟨j, ?_, ?_⟩)) (not_lt.mpr h1)
  · exact Finset.mem_filter.mpr ⟨Finset.mem_univ _, hqp i (Finset.mem_filter.mp hi).2⟩
  · exact Finset.mem_filter.mpr ⟨Finset.mem_univ _, hj⟩
  · exact fun hm => hj' (Finset.mem_filter.mp hm).2

/-- Descending values that still descend when rearranged are unchanged by the rearrangement. -/
theorem rearranged_values {k : Nat} (y : Fin k → α) (hy : Antitone y) (σ : Fin k → Fin k) (hσ : Function.Injective σ)
    (hyσ : Antitone fun j => y (σ j)) (j : Fin k) : y (σ j) = y j := by
  refine le_antisymm (not_lt.mp fun h => ?_) (not_lt.mp fun h => ?_)
  · refine no_squeeze σ hσ (fun i => i ≤ j) (fun i => i < j) (fun i hi => hi.le) j le_rfl (lt_irrefl j) fun i hi => ?_
    by_contra hn
    exact absurd (lt_of_lt_of_le h (hyσ hi)) (not_lt.mpr (hy (not_lt.mp hn)))
  · refine no_squeeze σ hσ (fun i => j ≤ i) (fun i => j < i) (fun i hi => hi.le) j le_rfl (lt_irrefl j) fun i hi => ?_
    by_contra hn
    exact absurd (lt_of_le_of_lt (hyσ hi) h) (not_lt.mpr (hy (not_lt.mp hn)))

/-- Two descending listings of the same columns, all greater than the rest, are each other rearranged among equal values. -/
theorem listing_rearranged {ι : Type} {k : Nat} (S : ι → α) (P a : Fin k → ι) (hPi : Function.Injective P) (hP : Antitone fun j => S (P j))
    (ha : Function.Injective a) (hanti : Antitone fun j => S (a j)) (hsep : ∀ c, c ∉ Set.range P → ∀ j, S c < S (P j))
    (htop : ∀ i, P i ∉ Set.range a → ∀ j, S (P i) ≤ S (a j)) :
    ∃ σ : Equiv.Perm (Fin k), (∀ j, a j = P (σ j)) ∧ ∀ j, S (P (σ j)) = S (P j) := by
  classical
  have hsub : ∀ j, a j ∈ Set.range P := by
    by_contra hne
    push Not at hne
    obtain ⟨j, hj⟩ := hne
    have hsome : ∃ i, P i ∉ Set.range a := by
      by_contra hall
      push Not at hall
      have himg : Finset.univ.image P ⊆ (Finset.univ.erase j).image a := fun c hc => by
        obtain ⟨i, -, rfl⟩ := Finset.mem_image.mp hc
        obtain ⟨l, hl⟩ := hall i
        refine Finset.mem_image.mpr ⟨l, Finset.mem_erase.mpr ⟨fun e => hj ?_, Finset.mem_univ _⟩, hl⟩
        exact ⟨i, by rw [← e, hl]⟩
      have h1 := Finset.card_le_card himg
      rw [Finset.card_image_of_injective _ hPi, Finset.card_image_of_injective _ ha,
        Finset.card_erase_of_mem (Finset.mem_univ j), Finset.card_fin] at h1
      have := j.isLt
      omega
    obtain ⟨i, hi⟩ := hsome
    exact absurd (hsep (a j) hj i) (not_lt.mpr (htop i hi j))
  choose σ hσ using hsub
  have hσi : Function.Injective σ := fun i j h => ha (by rw [← hσ i, ← hσ j, h])
  refine ⟨Equiv.ofBijective σ (Finite.injective_iff_bijective.mp hσi), fun j => (hσ j).symm, ?_⟩
  exact rearranged_values (fun j => S (P j)) hP σ hσi (fun i j hij => by
    show S (P (σ j)) ≤ S (P (σ i))
    rw [hσ, hσ]
    exact hanti hij)

/-! ## The printed top-k -/

/-- The printed comparison of two extended reals is the strict order. -/
theorem cmp_gt (a b : EReal) : (FloatOps.cmpfTotal (F := Ideal) (φ := .f32) .gt a b == 1#1) = decide (b < a) := by
  rw [Ideal.cmpfTotal_def]
  show (BitVec.ofBool (decide (b < a)) == 1#1) = _
  cases decide (b < a) <;> rfl

/-- A position along the columns keeps its row. -/
theorem along_one {R n : Nat} (q : Fin R) (i k : Fin n) : (ix2 q i).along (s := ⟨2, ![R, n]⟩) 1 k = ix2 q k := by
  funext a
  fin_cases a <;> rfl

/-- The leading entries of a rank-2 value, read at an index. -/
theorem lead_apply {β : Type} {R n k : Nat} (hk : k ≤ n) (x : (⟨2, ![R, n]⟩ : Shape).Idx → β)
    (h : (⟨2, ![R, n]⟩ : Shape).Slices (fun _ => 0) ⟨2, ![R, k]⟩) (q : Fin R) (j : Fin k) :
    extractStridedSlice ⟨2, ![R, k]⟩ (fun _ => 0) x h (ix2 q j) = x (ix2 q (j.castLE hk)) := by
  unfold extractStridedSlice
  congr 1
  funext a
  fin_cases a <;> exact Fin.ext (Nat.zero_add _)

/-- The printed sort of a row's positions is the row's order. -/
theorem sorted_row {R n : Nat} (x : FVec Ideal ⟨2, ![R, n]⟩ .f32) (q : Fin R) (i : Fin n) :
    sortedFrom (fun a b => FloatOps.cmpfTotal (F := Ideal) (φ := .f32) .gt
      (x ((ix2 q i).along (s := ⟨2, ![R, n]⟩) 1 a)) (x ((ix2 q i).along (s := ⟨2, ![R, n]⟩) 1 b)) == 1#1) i
      = order (α := EReal) (fun c => x (ix2 q c)) i :=
  congrArg (fun f => sortedFrom f i) (funext fun a => funext fun b => (cmp_gt _ _).trans
    (congrArg₂ (fun u v : EReal => decide (v < u)) (congrArg x (along_one q i a)) (congrArg x (along_one q i b))))

/-- The values of a printed top-k along the columns: entry `(q, j)` is row `q`'s value at the `j`-th position of its order. -/
theorem topK_values {R n k : Nat} (hk : k ≤ n) (x : FVec Ideal ⟨2, ![R, n]⟩ .f32)
    (h : (⟨2, ![R, n]⟩ : Shape).Slices (fun _ => 0) ⟨2, ![R, k]⟩) (q : Fin R) (j : Fin k) :
    (Host.topK ⟨2, ![R, k]⟩ 1 (FloatOps.cmpfTotal (F := Ideal) (φ := .f32) .gt) x h).1 (ix2 q j)
      = x (ix2 q (order (α := EReal) (fun c => x (ix2 q c)) (j.castLE hk))) := by
  refine Eq.trans (b := extractStridedSlice ⟨2, ![R, k]⟩ (fun _ => 0) (fun J : (⟨2, ![R, n]⟩ : Shape).Idx =>
    x (J.along (s := ⟨2, ![R, n]⟩) 1 (sortedFrom (fun a b => FloatOps.cmpfTotal (F := Ideal) (φ := .f32) .gt
      (x (J.along (s := ⟨2, ![R, n]⟩) 1 a)) (x (J.along (s := ⟨2, ![R, n]⟩) 1 b)) == 1#1) (J 1)))) h (ix2 q j)) rfl ?_
  rw [lead_apply hk]
  exact congrArg x ((along_one q (j.castLE hk) _).trans (congrArg (ix2 q) (sorted_row x q (j.castLE hk))))

/-- The positions of a printed top-k along the columns: entry `(q, j)` is the `j`-th position of row `q`'s order, as a word. -/
theorem topK_positions {R n k : Nat} (hk : k ≤ n) (x : FVec Ideal ⟨2, ![R, n]⟩ .f32)
    (h : (⟨2, ![R, n]⟩ : Shape).Slices (fun _ => 0) ⟨2, ![R, k]⟩) (q : Fin R) (j : Fin k) :
    (Host.topK ⟨2, ![R, k]⟩ 1 (FloatOps.cmpfTotal (F := Ideal) (φ := .f32) .gt) x h).2 (ix2 q j)
      = BitVec.ofNat 32 (order (α := EReal) (fun c => x (ix2 q c)) (j.castLE hk)).val := by
  refine Eq.trans (b := extractStridedSlice ⟨2, ![R, k]⟩ (fun _ => 0) (fun J : (⟨2, ![R, n]⟩ : Shape).Idx =>
    BitVec.ofNat 32 ((J.along (s := ⟨2, ![R, n]⟩) 1 (sortedFrom (fun a b => FloatOps.cmpfTotal (F := Ideal) (φ := .f32) .gt
      (x (J.along (s := ⟨2, ![R, n]⟩) 1 a)) (x (J.along (s := ⟨2, ![R, n]⟩) 1 b)) == 1#1) (J 1))) 1).val) h (ix2 q j)) rfl ?_
  rw [lead_apply hk]
  exact congrArg (fun J : (⟨2, ![R, n]⟩ : Shape).Idx => BitVec.ofNat 32 (J 1).val)
    ((along_one q (j.castLE hk) _).trans (congrArg (ix2 q) (sorted_row x q (j.castLE hk))))

end Cert.Ranking

end
-- ==== Proof.Neighbours.lean ====
/- The similarities of a query to the training rows, and the votes of its nearest training rows, as both programs compute them
   over the extended reals. -/
module

public import proofs.«01_k».proof.Proof.Voting
public import proofs.«01_k».proof.Proof.Ranking

@[expose] public section

noncomputable section

namespace Cert.Neighbours

open Idealize.ShloMosaic hiding ix0 ix1 ix2 ix3
open Idealize.ShloMosaic.ValueIdx Cert.Ranking Cert.Voting

/-- The similarities of query `q` to the training rows. -/
def row (f : FVec Ideal ⟨2, ![1024, 64]⟩ .f32) (g : FVec Ideal ⟨2, ![100000, 64]⟩ .f32) (q : Fin 1024) (k : Fin 100000) : EReal :=
  ∑ d : Fin 64, f (ix2 q d) * g (ix2 k d)

/-- The `a`-th nearest training row, counted from zero. -/
def ranked (x : Fin 100000 → EReal) (a : Fin 101) : Fin 100000 := order x ⟨a.val, by omega⟩

/-- The training rows next to the nearest one, nearest first. -/
def near (x : Fin 100000 → EReal) (j : Fin 100) : Fin 100000 := ranked x ⟨1 + j.val, by omega⟩

/-- Their similarities divided by the temperature. -/
def warm (x : Fin 100000 → EReal) (j : Fin 100) : EReal := x (near x j) * ((134217728 / 9395241 : ℝ) : EReal)

/-- The votes of the nearest `k` of them for class `l`. -/
def ballot (k : ℕ) (hk : k ≤ 100) (x : Fin 100000 → EReal) (lab : IVec ⟨1, ![100000]⟩ 32) (l : ℕ) : EReal :=
  tally k hk (warm x) (fun j => lab (ix1 (near x j))) l

/-- A cut after place `b`: the similarity there is larger than the next. -/
def Cut (x : Fin 100000 → EReal) (b : ℕ) (hb : b < 101) : Prop := x (order x ⟨b + 1, by omega⟩) < x (order x ⟨b, by omega⟩)

/-- The four cuts that the results depend on: after the nearest row, and after the last of ten, twenty and a hundred neighbours. -/
structure Cuts (x : Fin 100000 → EReal) : Prop where
  skipped : Cut x 0 (by omega)
  ten : Cut x 10 (by omega)
  twenty : Cut x 20 (by omega)
  hundred : Cut x 100 (by omega)

/-- A rearrangement of the nearest rows that keeps their similarities keeps them on their side of a cut. -/
theorem side_kept (x : Fin 100000 → EReal) (σ : Equiv.Perm (Fin 101)) (hσ : ∀ j, x (ranked x (σ j)) = x (ranked x j)) (b : ℕ) (hb : b < 101)
    (h : Cut x b hb) (j : Fin 101) : (σ j).val ≤ b ↔ j.val ≤ b := by
  have key : ∀ i : Fin 101, i.val ≤ b ↔ x (order x ⟨b, by omega⟩) ≤ x (ranked x i) := fun i => by
    refine ⟨fun hi => order_antitone x (Fin.le_def.mpr hi), fun hi => ?_⟩
    by_contra hlt
    refine absurd (lt_of_lt_of_le h hi) (not_lt.mpr (order_antitone x (Fin.le_def.mpr ?_)))
    show b + 1 ≤ i.val
    omega
  rw [key, key, hσ]

/-- The places after the nearest, up to place `k`, as places of the whole listing. -/
theorem sum_places (k : ℕ) (hk : k ≤ 100) (G : Fin 101 → EReal) :
    ∑ j : Fin k, G ⟨1 + j.val, by omega⟩ = ∑ a ∈ Finset.univ.filter (fun a : Fin 101 => ¬ a.val ≤ 0 ∧ a.val ≤ k), G a := by
  refine Finset.sum_bij (fun (j : Fin k) _ => (⟨1 + j.val, by omega⟩ : Fin 101)) (fun j _ => ?_) (fun i _ j _ h => ?_) (fun a ha => ?_)
    (fun _ _ => rfl)
  · refine Finset.mem_filter.mpr ⟨Finset.mem_univ _, ?_, ?_⟩
    · show ¬ 1 + j.val ≤ 0
      omega
    · show 1 + j.val ≤ k
      omega
  · have := Fin.mk.inj_iff.mp h
    exact Fin.ext (by omega)
  · have h := (Finset.mem_filter.mp ha).2
    exact ⟨⟨a.val - 1, by omega⟩, Finset.mem_univ _, Fin.ext (by show 1 + (a.val - 1) = a.val; omega)⟩

/-- A sum over those places is the same after a rearrangement that keeps both their ends. -/
theorem sum_rearranged (k : ℕ) (hk : k ≤ 100) (G : Fin 101 → EReal) (σ : Equiv.Perm (Fin 101)) (h0 : ∀ j, (σ j).val ≤ 0 ↔ j.val ≤ 0)
    (h1 : ∀ j, (σ j).val ≤ k ↔ j.val ≤ k) : ∑ j : Fin k, G (σ ⟨1 + j.val, by omega⟩) = ∑ j : Fin k, G ⟨1 + j.val, by omega⟩ := by
  rw [sum_places k hk G, sum_places k hk fun a => G (σ a)]
  refine Finset.sum_equiv σ (fun a => ?_) (fun _ _ => rfl)
  rw [Finset.mem_filter, Finset.mem_filter, h0, h1]
  exact ⟨fun h => ⟨Finset.mem_univ _, h.2⟩, fun h => ⟨Finset.mem_univ _, h.2⟩⟩

/-- The votes are the same when the nearest rows' labels are rearranged with equal similarities, within the cuts. -/
theorem ballot_rearranged (k : ℕ) (hk : k ≤ 100) (x : Fin 100000 → EReal) (lab : IVec ⟨1, ![100000]⟩ 32) (l : ℕ) (σ : Equiv.Perm (Fin 101))
    (hσ : ∀ j, x (ranked x (σ j)) = x (ranked x j)) (h0 : ∀ j, (σ j).val ≤ 0 ↔ j.val ≤ 0) (h1 : ∀ j, (σ j).val ≤ k ↔ j.val ≤ k) :
    tally k hk (warm x) (fun j => lab (ix1 (ranked x (σ ⟨1 + j.val, by omega⟩)))) l = ballot k hk x lab l := by
  have h := sum_rearranged k hk (fun a => if lab (ix1 (ranked x a)) = BitVec.ofNat 32 l
    then share (warm x) (x (ranked x a) * ((134217728 / 9395241 : ℝ) : EReal)) else 0) σ h0 h1
  simp only [hσ] at h
  exact h

end Cert.Neighbours
-- ==== Proof.Taking.lean ====
/- What `jnp.take_along_axis` along the columns and `jnp.take` of a vector print, read at an index where every index word
   is in range: the wrap of negative indices, the bounds mask and the fill value drop out, and the element is the one
   that the index names. -/
module

public import Idealize.ShloMosaic.Lib.ValueIdx
public import Idealize.ShloMosaic.Lib.ReduceAll
public import Idealize.ShloMosaic.Lib.Routing.Words
public import Idealize.ShloMosaic.Lib.Routing.OpsSearch
public import Idealize.ShloMosaic.Lib.Routing.OpsPair

@[expose] public section

noncomputable section

namespace Cert.Taking

open Idealize.ShloMosaic Idealize.ShloMosaic.ValueIdx Idealize.ShloMosaic.WordCmp Idealize.ShloMosaic.Routing

variable {α : Type} {R C N : Nat}

/-- The indices with the negative ones raised by the extent. -/
def wrapped (hb : shape0.BroadcastsInDim (shape2 R C) (![] : Fin 0 → Fin (shape2 R C).rank)) (e : BitVec 32) (i : IVec (shape2 R C) 32) :
    IVec (shape2 R C) 32 :=
  select (cmpi .slt i (broadcastInDim (shape2 R C) ![] hb (constantI shape0 32 0#32)))
    (addi i (broadcastInDim (shape2 R C) ![] hb (constantI shape0 32 e))) i

/-- Where the start indices lie between zero and the last position. -/
def inside (hb : shape0.BroadcastsInDim (shape3 R C 1) (![] : Fin 0 → Fin (shape3 R C 1).rank))
    (h1 : (shape1 1).BroadcastsInDim (shape3 1 1 1) (![2] : Fin 1 → Fin (shape3 1 1 1).rank))
    (h3 : (shape3 1 1 1).BroadcastsInDim (shape3 R C 1) (![0, 1, 2] : Fin 3 → Fin (shape3 R C 1).rank))
    (hr : (shape3 R C 1).ReducesTo [2] (shape2 R C)) (hu : 0 < shape0.numel) (e : BitVec 32) (s : IVec (shape3 R C 1) 32) :
    IVec (shape2 R C) 1 :=
  Host.reduce IntOp.andi (andi (cmpi .sge s (broadcastInDim (shape3 R C 1) ![] hb (constantI shape0 32 0#32)))
    (cmpi .sle s (broadcastInDim (shape3 R C 1) ![0, 1, 2] h3 (broadcastInDim (shape3 1 1 1) ![2] h1 (constantI (shape1 1) 32 e)))))
    (constantI shape0 1 1#1) hr hu

/-- Index words in range are not raised. -/
theorem wrapped_apply (hb : shape0.BroadcastsInDim (shape2 R C) (![] : Fin 0 → Fin (shape2 R C).rank)) (e : BitVec 32) (i : IVec (shape2 R C) 32)
    (y : (shape2 R C).Idx) {n : Nat} (hn : n < 2 ^ 31) (hi : i y = BitVec.ofNat 32 n) : wrapped hb e i y = BitVec.ofNat 32 n := by
  unfold wrapped
  rw [select_at, cmpi_at, bc0, constantI_at, hi]
  exact wrap_of_lt _ _ (by rw [toNat_ofNat_of_lt (by omega)]; exact hn)

/-- Start indices in range are inside. -/
theorem inside_apply (hb : shape0.BroadcastsInDim (shape3 R C 1) (![] : Fin 0 → Fin (shape3 R C 1).rank))
    (h1 : (shape1 1).BroadcastsInDim (shape3 1 1 1) (![2] : Fin 1 → Fin (shape3 1 1 1).rank))
    (h3 : (shape3 1 1 1).BroadcastsInDim (shape3 R C 1) (![0, 1, 2] : Fin 3 → Fin (shape3 R C 1).rank))
    (hr : (shape3 R C 1).ReducesTo [2] (shape2 R C)) (hu : 0 < shape0.numel) (e : Nat) (he : e < 2 ^ 31) (s : IVec (shape3 R C 1) 32)
    (hs : ∀ q j, ∃ n, n ≤ e ∧ s (ix3 q j (0 : Fin 1)) = BitVec.ofNat 32 n) (y : (shape2 R C).Idx) :
    inside hb h1 h3 hr hu (BitVec.ofNat 32 e) s y = 1#1 := by
  unfold inside
  refine Host.reduce_andi_one _ _ hr hu y rfl fun z => ?_
  obtain ⟨q, j, l, rfl⟩ : ∃ q j l, z = ix3 q j l := ⟨_, _, _, eq_ix3 z⟩
  obtain rfl : l = 0 := Subsingleton.elim _ _
  obtain ⟨n, hn, hq⟩ := hs q j
  show IntOp.andi (IntOp.cmpi .sge (s (ix3 q j (0 : Fin 1))) 0#32) (IntOp.cmpi .sle (s (ix3 q j (0 : Fin 1))) (BitVec.ofNat 32 e)) = 1#1
  rw [hq, show (0#32 : BitVec 32) = BitVec.ofNat 32 0 from rfl, cmpi_sge_ofNat (w := 32) (by omega) (by omega), cmpi_sle_ofNat (w := 32) (by omega) (by omega)]
  simp only [Nat.zero_le, hn, decide_true]
  rfl

/-- Adding a unit last axis keeps the entries. -/
theorem lane_cast (x : (shape2 R C).Idx → α) (h : (shape2 R C).ShapeCasts (shape3 R C 1)) (q : Fin R) (j : Fin C) :
    shapeCast (shape3 R C 1) x h (ix3 q j (0 : Fin 1)) = x (ix2 q j) := by
  refine shapeCast_apply x h _ _ ?_
  rw [Shape.rowMajor_val_three, Shape.rowMajor_val_two]
  show q.val * C + j.val = (q.val * C + j.val) * 1 + 0
  omega

/-- The dimension numbers of a gather along the columns, one column index for each entry, the row shared. -/
abbrev alongDims (N : Nat) {R C : Nat} (wf : GatherDims.WF (shape2 R N) (shape3 R C 1) (shape2 R C) [] [1] [0] [1] [0] 2 ![1, 1]) :
    GatherDims (shape2 R N) (shape3 R C 1) (shape2 R C) where
  offsetDims := []
  collapsedSliceDims := [1]
  operandBatchingDims := [0]
  startIndicesBatchingDims := [0]
  startIndexMap := [1]
  indexVectorDim := 2
  sliceSizes := ![1, 1]
  wf := wf

/-- The gather along the columns at an entry: the entry's row, at the column that its index word names. -/
theorem along_apply (wf : GatherDims.WF (shape2 R N) (shape3 R C 1) (shape2 R C) [] [1] [0] [1] [0] 2 ![1, 1])
    (x : (shape2 R N).Idx → α) (s : IVec (shape3 R C 1) 32) (q : Fin R) (j : Fin C) (n : Fin N) (hN : N ≤ 2 ^ 31)
    (hs : s (ix3 q j (0 : Fin 1)) = BitVec.ofNat 32 n.val) : Host.gather (alongDims N wf) x s (ix2 q j) = x (ix2 q n) := by
  unfold Host.gather
  congr 1
  funext a
  refine Fin.ext ?_
  show (alongDims N wf).start (ix2 q j) s a + (alongDims N wf).batchCoord (ix2 q j) a + (alongDims N wf).offCoord (ix2 q j) a = _
  have ha : a = 0 ∨ a = 1 := by
    match a with
    | ⟨0, _⟩ => exact Or.inl rfl
    | ⟨1, _⟩ => exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims N wf).startIndexMap from List.mem_singleton.mpr rfl)]
    have hsi : (alongDims N wf).siIdx (ix2 q j) ⟨List.idxOf (1 : Fin 2) (alongDims N wf).startIndexMap,
        List.idxOf_lt_length_iff.2 (List.mem_singleton.mpr rfl)⟩ = ix3 q j (0 : Fin 1) := by
      funext b; refine Fin.ext ?_
      match b with
      | ⟨0, _⟩ => rfl
      | ⟨1, _⟩ => rfl
      | ⟨2, _⟩ => rfl
    rw [hsi, hs]
    show min (BitVec.ofNat 32 n.val).toInt.toNat (N - 1) = n.val
    have := n.isLt
    rw [toInt_ofNat_of_lt (by omega), Int.toNat_natCast]
    omega

/-- `take_along_axis` along the columns, read at an entry. -/
theorem takeAlong_apply (wf : GatherDims.WF (shape2 R N) (shape3 R C 1) (shape2 R C) [] [1] [0] [1] [0] 2 ![1, 1])
    (hb : shape0.BroadcastsInDim (shape2 R C) (![] : Fin 0 → Fin (shape2 R C).rank))
    (hb3 : shape0.BroadcastsInDim (shape3 R C 1) (![] : Fin 0 → Fin (shape3 R C 1).rank))
    (h1 : (shape1 1).BroadcastsInDim (shape3 1 1 1) (![2] : Fin 1 → Fin (shape3 1 1 1).rank))
    (h3 : (shape3 1 1 1).BroadcastsInDim (shape3 R C 1) (![0, 1, 2] : Fin 3 → Fin (shape3 R C 1).rank))
    (hr : (shape3 R C 1).ReducesTo [2] (shape2 R C)) (hu : 0 < shape0.numel) (hc : (shape2 R C).ShapeCasts (shape3 R C 1))
    (w : BitVec 32) (e : Nat) (hN : N = e + 1) (hN' : N ≤ 2 ^ 31) (fill : (shape2 R C).Idx → α) (x : (shape2 R N).Idx → α) (i : IVec (shape2 R C) 32)
    (n : Fin R → Fin C → Fin N) (hi : ∀ q j, i (ix2 q j) = BitVec.ofNat 32 (n q j).val) (q : Fin R) (j : Fin C) :
    select (inside hb3 h1 h3 hr hu (BitVec.ofNat 32 e) (shapeCast (shape3 R C 1) (wrapped hb w i) hc))
      (Host.gather (alongDims N wf) x (shapeCast (shape3 R C 1) (wrapped hb w i) hc)) fill (ix2 q j) = x (ix2 q (n q j)) := by
  have hs : ∀ q j, shapeCast (shape3 R C 1) (wrapped hb w i) hc (ix3 q j (0 : Fin 1)) = BitVec.ofNat 32 (n q j).val := fun q j => by
    rw [lane_cast, wrapped_apply hb w i _ (by have := (n q j).isLt; omega) (hi q j)]
  rw [select_at, inside_apply hb3 h1 h3 hr hu e (by omega) _ (fun q j => ⟨_, by have := (n q j).isLt; omega, hs q j⟩)]
  exact along_apply wf x _ q j (n q j) hN' (hs q j)

/-- `take` of a vector at a rank-2 array of positions, read at an entry. -/
theorem take_apply (wf : GatherDims.WF (shape1 N) (shape3 R C 1) (shape2 R C) [] [0] [] [0] [] 2 ![1])
    (hb : shape0.BroadcastsInDim (shape2 R C) (![] : Fin 0 → Fin (shape2 R C).rank))
    (hb3 : shape0.BroadcastsInDim (shape3 R C 1) (![] : Fin 0 → Fin (shape3 R C 1).rank))
    (h1 : (shape1 1).BroadcastsInDim (shape3 1 1 1) (![2] : Fin 1 → Fin (shape3 1 1 1).rank))
    (h3 : (shape3 1 1 1).BroadcastsInDim (shape3 R C 1) (![0, 1, 2] : Fin 3 → Fin (shape3 R C 1).rank))
    (hr : (shape3 R C 1).ReducesTo [2] (shape2 R C)) (hu : 0 < shape0.numel)
    (hc : (shape2 R C).BroadcastsInDim (shape3 R C 1) (![0, 1] : Fin 2 → Fin (shape3 R C 1).rank))
    (w : BitVec 32) (e : Nat) (hN : N = e + 1) (hN' : N ≤ 2 ^ 31) (fill : (shape2 R C).Idx → α) (x : (shape1 N).Idx → α) (i : IVec (shape2 R C) 32)
    (n : Fin R → Fin C → Fin N) (hi : ∀ q j, i (ix2 q j) = BitVec.ofNat 32 (n q j).val) (q : Fin R) (j : Fin C) :
    select (inside hb3 h1 h3 hr hu (BitVec.ofNat 32 e) (broadcastInDim (shape3 R C 1) ![0, 1] hc (wrapped hb w i)))
      (Host.gather (takeDims N R C wf) x (broadcastInDim (shape3 R C 1) ![0, 1] hc (wrapped hb w i))) fill (ix2 q j) = x (ix1 (n q j)) := by
  have hs : ∀ q j, broadcastInDim (shape3 R C 1) ![0, 1] hc (wrapped hb w i) (ix3 q j (0 : Fin 1)) = BitVec.ofNat 32 (n q j).val := fun q j => by
    rw [bcLane, wrapped_apply hb w i _ (by have := (n q j).isLt; omega) (hi q j)]
  rw [select_at, inside_apply hb3 h1 h3 hr hu e (by omega) _ (fun q j => ⟨_, by have := (n q j).isLt; omega, hs q j⟩)]
  refine (gather_take_apply (by omega) wf x _ _).trans (congrArg x (congrArg ix1 (Fin.ext ?_)))
  have ht : takeIdx (ix2 q j) = ix3 q j (0 : Fin 1) := by
    funext b; refine Fin.ext ?_
    match b with
    | ⟨0, _⟩ => rfl
    | ⟨1, _⟩ => rfl
    | ⟨2, _⟩ => rfl
  show min (broadcastInDim (shape3 R C 1) ![0, 1] hc (wrapped hb w i) (takeIdx (ix2 q j))).toInt.toNat (N - 1) = (n q j).val
  have := (n q j).isLt
  rw [ht, hs, toInt_ofNat_of_lt (by omega), Int.toNat_natCast]
  omega

end Cert.Taking

end
-- ==== Proof.NoTie.lean ====
/- The precondition, read: no tie of a query's similarities lies across one of the four cuts. -/
module

public import proofs.«01_k».proof.Proof.Neighbours
public import proofs.«01_k».proof.Proof.Taking
public import proofs.«01_k».proof.Proof.Gen.Pre_no_tie
public import proofs.«01_k».proof.Pre_no_tie

@[expose] public section

set_option maxRecDepth 16384

noncomputable section

namespace Cert.Pre_no_tie

open Idealize.ShloMosaic hiding ix0 ix1 ix2 ix3
open Idealize.ShloMosaic.ValueIdx Idealize.ShloMosaic.WordCmp
open Cert.Pre_no_tie.Facts
open Cert.Ranking Cert.Neighbours

/-- All similarities. -/
def likeness (f : FVec Ideal S1024x64 .f32) (g : FVec Ideal S100000x64 .f32) : FVec Ideal S1024x100000 .f32 :=
  Host.dotGeneral dot_S1024x64_S64x100000_S1024x100000_1_0_0_1_n_n none f (transpose S64x100000 [1, 0] g transposes_S100000x64_S64x100000_1_0)

/-- A query's similarity to a training row. -/
theorem likeness_at (f : FVec Ideal S1024x64 .f32) (g : FVec Ideal S100000x64 .f32) (q : Fin 1024) (k : Fin 100000) :
    likeness f g (ix2 q k) = row f g q k := by
  unfold likeness row
  pointwise
  rfl

/-- A row of the similarities. -/
theorem likeness_row (f : FVec Ideal S1024x64 .f32) (g : FVec Ideal S100000x64 .f32) (q : Fin 1024) :
    (fun k => likeness f g (ix2 q k)) = row f g q := funext fun k => likeness_at f g q k

/-- The greatest hundred and two similarities. -/
def best (x : FVec Ideal S1024x100000 .f32) : FVec Ideal S1024x102 .f32 :=
  (Host.topK S1024x102 1 (FloatOps.cmpfTotal .gt) x sliceFits_S1024x100000_S1024x102).1

/-- The sorted similarities. -/
theorem best_at (f : FVec Ideal S1024x64 .f32) (g : FVec Ideal S100000x64 .f32) (q : Fin 1024) (j : Fin 102) :
    best (likeness f g) (ix2 q j) = row f g q (order (row f g q) (j.castLE (by omega))) := by
  refine (topK_values (by omega) (likeness f g) sliceFits_S1024x100000_S1024x102 q j).trans ?_
  rw [likeness_row, likeness_at]

/-- The comparison of place `b` with the next, for every query. -/
def step (v : FVec Ideal S1024x102 .f32) (b : ℕ) (h : S1024x102.Slices ![0, b] S1024x1) (h' : S1024x102.Slices ![0, b + 1] S1024x1) :
    IVec S1024x1 1 := cmpf .ogt (extractStridedSlice S1024x1 ![0, b] v h) (extractStridedSlice S1024x1 ![0, b + 1] v h')

/-- The comparison of one place with the next, at a query. -/
theorem step_at (v : FVec Ideal S1024x102 .f32) (b : ℕ) (h : S1024x102.Slices ![0, b] S1024x1) (h' : S1024x102.Slices ![0, b + 1] S1024x1)
    (hb : b < 101) (q : Fin 1024) :
    step v b h h' (ix2 q (0 : Fin 1)) = BitVec.ofBool (decide (v (ix2 q ⟨b + 1, by omega⟩) < v (ix2 q ⟨b, by omega⟩))) := by
  unfold step
  pointwise
  rfl

/-- Both of two conditions hold where their conjunction does. -/
theorem both {a b : BitVec 1} (h : a &&& b = 1#1) : a = 1#1 ∧ b = 1#1 := by
  revert a b
  decide

/-- Where the precondition holds, every query has the four cuts. -/
theorem cuts (f : FVec Ideal S1024x64 .f32) (g : FVec Ideal S100000x64 .f32) (lab : IVec S100000 32) (h : fn f g lab = fun _ => 1#1)
    (q : Fin 1024) : Cuts (row f g q) := by
  have e : fn f g lab = andi (andi (andi
      (step (best (likeness f g)) 0 slices_S1024x102_S1024x1_0_0 slices_S1024x102_S1024x1_0_1)
      (step (best (likeness f g)) 10 slices_S1024x102_S1024x1_0_10 slices_S1024x102_S1024x1_0_11))
      (step (best (likeness f g)) 20 slices_S1024x102_S1024x1_0_20 slices_S1024x102_S1024x1_0_21))
      (step (best (likeness f g)) 100 slices_S1024x102_S1024x1_0_100 slices_S1024x102_S1024x1_0_101) := rfl
  have hq := (congrFun e (ix2 q (0 : Fin 1))).symm.trans (congrFun h (ix2 q (0 : Fin 1)))
  obtain ⟨h123, h4⟩ := both hq
  obtain ⟨h12, h3⟩ := both h123
  obtain ⟨h1, h2⟩ := both h12
  have cut (b : ℕ) (hs hs') (hb : b < 101) (h : step (best (likeness f g)) b hs hs' (ix2 q (0 : Fin 1)) = 1#1) : Cut (row f g q) b hb := by
    rw [step_at _ _ _ _ hb, ofBool_decide_eq_one_iff, best_at, best_at] at h
    exact h
  exact ⟨cut 0 _ _ (by omega) h1, cut 10 _ _ (by omega) h2, cut 20 _ _ (by omega) h3, cut 100 _ _ (by omega) h4⟩

end Cert.Pre_no_tie
-- ==== Proof.Selection.lean ====
/- The kernel's three-level selection of a row's 101 greatest columns: the 128 super-groups of greatest maximum, among
   their groups the 128 of greatest maximum, among their columns the 101 greatest. Where the row's 101st
   value is greater than its 102nd, the selection lists the row's own 101 greatest columns, rearranged among equal values. -/
module

public import proofs.«01_k».proof.Proof.Ranking

@[expose] public section

noncomputable section

namespace Cert.Ranking

open Idealize.ShloMosaic

/-- Group `t` of super-group `s`: seven consecutive groups share a lane. -/
def grp (s : Fin 896) (t : Fin 7) : Fin 6272 := ⟨(s.val / 128 * 7 + t.val) * 128 + s.val % 128, by omega⟩

/-- Column `r` of group `g`: sixteen columns share a lane. -/
def col (g : Fin 6272) (r : Fin 16) : Fin 100352 := ⟨g.val / 128 * 2048 + g.val % 128 + 128 * r.val, by omega⟩

/-- Groups of distinct super-groups or places are distinct. -/
theorem grp_inj {s s' : Fin 896} {t t' : Fin 7} (h : grp s t = grp s' t') : s = s' ∧ t = t' := by
  have h := Fin.mk.inj_iff.mp h
  exact ⟨Fin.ext (by omega), Fin.ext (by omega)⟩

/-- Columns of distinct groups or places are distinct. -/
theorem col_inj {g g' : Fin 6272} {r r' : Fin 16} (h : col g r = col g' r') : g = g' ∧ r = r' := by
  have h := Fin.mk.inj_iff.mp h
  exact ⟨Fin.ext (by omega), Fin.ext (by omega)⟩

/-- Every group is a group of some super-group. -/
theorem grp_surj (g : Fin 6272) : ∃ s t, grp s t = g :=
  ⟨⟨g.val / 128 / 7 * 128 + g.val % 128, by omega⟩, ⟨g.val / 128 % 7, by omega⟩, Fin.ext (by simp only [grp]; omega)⟩

/-- Every column is a column of some group. -/
theorem col_surj (c : Fin 100352) : ∃ g r, col g r = c :=
  ⟨⟨c.val / 2048 * 128 + c.val % 128, by omega⟩, ⟨c.val / 128 % 16, by omega⟩, Fin.ext (by simp only [col]; omega)⟩

/-- The candidate groups: place `u` holds group `u % 7` of the `u / 7`-th chosen super-group. -/
def groups (p : Fin 128 → Fin 896) (u : Fin 896) : Fin 6272 := grp (p ⟨u.val / 7, by omega⟩) ⟨u.val % 7, by omega⟩

/-- The candidate columns: place `u` holds column `u % 16` of the `u / 16`-th chosen group. -/
def columns (g : Fin 128 → Fin 6272) (u : Fin 2048) : Fin 100352 := col (g ⟨u.val / 16, by omega⟩) ⟨u.val % 16, by omega⟩

/-- The place of group `t` of the `a`-th chosen super-group. -/
theorem groups_apply (p : Fin 128 → Fin 896) (a : Fin 128) (t : Fin 7) (h : 7 * a.val + t.val < 896) :
    groups p ⟨7 * a.val + t.val, h⟩ = grp (p a) t :=
  congrArg₂ (fun a t => grp (p a) t) (Fin.ext (by show (7 * a.val + t.val) / 7 = a.val; omega))
    (Fin.ext (by show (7 * a.val + t.val) % 7 = t.val; omega))

/-- The place of column `r` of the `b`-th chosen group. -/
theorem columns_apply (g : Fin 128 → Fin 6272) (b : Fin 128) (r : Fin 16) (h : 16 * b.val + r.val < 2048) :
    columns g ⟨16 * b.val + r.val, h⟩ = col (g b) r :=
  congrArg₂ (fun b r => col (g b) r) (Fin.ext (by show (16 * b.val + r.val) / 16 = b.val; omega))
    (Fin.ext (by show (16 * b.val + r.val) % 16 = r.val; omega))

/-- The first `k` positions of a row's order. -/
def first {α : Type} [LinearOrder α] {n : Nat} (k : Nat) (hk : k ≤ n) (x : Fin n → α) (j : Fin k) : Fin n := order x (j.castLE hk)

/-- Distinct candidate places hold distinct groups. -/
theorem groups_injective {p : Fin 128 → Fin 896} (hp : Function.Injective p) : Function.Injective (groups p) := fun u u' h => by
  obtain ⟨h1, h2⟩ := grp_inj h
  have h1 := Fin.mk.inj_iff.mp (hp h1)
  have h2 := Fin.mk.inj_iff.mp h2
  exact Fin.ext (by omega)

/-- Distinct candidate places hold distinct columns. -/
theorem columns_injective {g : Fin 128 → Fin 6272} (hg : Function.Injective g) : Function.Injective (columns g) := fun u u' h => by
  obtain ⟨h1, h2⟩ := col_inj h
  have h1 := Fin.mk.inj_iff.mp (hg h1)
  have h2 := Fin.mk.inj_iff.mp h2
  exact Fin.ext (by omega)

/-- The first places of a sorting are distinct. -/
theorem first_injective {α : Type} [LinearOrder α] {n k : Nat} (hk : k ≤ n) (x : Fin n → α) : Function.Injective (first k hk x) :=
  fun _ _ h => Fin.castLE_injective hk (order_injective x h)

variable {α : Type} [LinearOrder α]

/-- The groups that the second level keeps. -/
def kept (v₁ : Fin 6272 → α) (v₂ : Fin 896 → α) (a : Fin 128) : Fin 6272 :=
  groups (first 128 (by omega) v₂) (first 128 (by omega) (fun u => v₁ (groups (first 128 (by omega) v₂) u)) a)

/-- The columns that the three levels list. -/
def selected (S : Fin 100352 → α) (v₁ : Fin 6272 → α) (v₂ : Fin 896 → α) (j : Fin 101) : Fin 100352 :=
  columns (kept v₁ v₂) (first 101 (by omega) (fun u => S (columns (kept v₁ v₂) u)) j)

/-- The selection theorem. Where `v₁` and `v₂` are the maxima of the groups and super-groups of `S`, and the listing `P`
    descends with every other column strictly below it, the three levels list `P`, rearranged among equal values. -/
theorem selected_rearranged (S : Fin 100352 → α) (v₁ : Fin 6272 → α) (v₂ : Fin 896 → α)
    (le₁ : ∀ g r, S (col g r) ≤ v₁ g) (at₁ : ∀ g, ∃ r, S (col g r) = v₁ g)
    (le₂ : ∀ s t, v₁ (grp s t) ≤ v₂ s) (at₂ : ∀ s, ∃ t, v₁ (grp s t) = v₂ s)
    (P : Fin 101 → Fin 100352) (hPi : Function.Injective P) (hP : Antitone fun j => S (P j))
    (hsep : ∀ c, c ∉ Set.range P → ∀ j, S c < S (P j)) :
    ∃ σ : Equiv.Perm (Fin 101), (∀ j, selected S v₁ v₂ j = P (σ j)) ∧ ∀ j, S (P (σ j)) = S (P j) := by
  classical
  have hp : Function.Injective (first 128 (by omega) v₂) := first_injective _ _
  have hq := groups_injective hp
  have hk : Function.Injective (kept v₁ v₂) := hq.comp (first_injective _ _)
  have hc := columns_injective hk
  refine listing_rearranged S P _ hPi hP (hc.comp (first_injective _ _))
    (fun i j h => order_antitone (fun u => S (columns (kept v₁ v₂) u)) (show i.castLE (by omega) ≤ j.castLE (by omega) from h)) hsep fun i hi j => ?_
  have hrank : (Finset.univ.filter fun d => S (P i) ≤ S d).card < 128 := by
    refine lt_of_le_of_lt (Finset.card_le_card (t := Finset.univ.image P) fun d hd => ?_) (Finset.card_image_le.trans_lt (by simp))
    by_contra hn
    refine absurd (hsep d (fun ⟨l, hl⟩ => hn (Finset.mem_image.mpr ⟨l, Finset.mem_univ _, hl⟩)) i) ?_
    exact not_lt.mpr (Finset.mem_filter.mp hd).2
  obtain ⟨g, r, hgr⟩ := col_surj (P i)
  obtain ⟨s, t, rfl⟩ := grp_surj g
  choose r₁ hr₁ using at₁
  choose t₂ ht₂ using at₂
  have hs : s ∈ Set.range (first 128 (by omega) v₂) :=
    block_mem S v₂ (fun s => col (grp s (t₂ s)) (r₁ (grp s (t₂ s)))) (fun a b h => (grp_inj (col_inj h).1).1)
      (fun s => (hr₁ _).trans (ht₂ s)) _ hp (fun u hu j => order_top _ v₂ u hu j) (P i) hrank s
      (by rw [← hgr]; exact (le₁ _ _).trans (le₂ _ _))
  obtain ⟨a, ha⟩ := hs
  have hu : groups (first 128 (by omega) v₂) ⟨7 * a.val + t.val, by omega⟩ = grp s t := by
    rw [← ha, groups_apply]
  have hg : (⟨7 * a.val + t.val, by omega⟩ : Fin 896)
      ∈ Set.range (first 128 (by omega) fun u => v₁ (groups (first 128 (by omega) v₂) u)) :=
    block_mem S (fun u => v₁ (groups (first 128 (by omega) v₂) u))
      (fun u => col (groups (first 128 (by omega) v₂) u) (r₁ (groups (first 128 (by omega) v₂) u)))
      (fun x y h => hq (col_inj h).1) (fun u => hr₁ _) _ (first_injective _ _)
      (fun u hu j => order_top _ _ u hu j) (P i) hrank _ (by simp only [hu]; rw [← hgr]; exact le₁ _ _)
  obtain ⟨b, hb⟩ := hg
  have hcol : columns (kept v₁ v₂) ⟨16 * b.val + r.val, by omega⟩ = P i := by
    rw [← hgr, ← hu, ← hb, columns_apply]
    rfl
  rw [← hcol]
  refine order_top (k := 101) (by omega) (fun u => S (columns (kept v₁ v₂) u)) ⟨16 * b.val + r.val, by omega⟩ (fun ⟨l, hl⟩ => hi ⟨l, ?_⟩) j
  rw [← hcol]
  exact congrArg (columns (kept v₁ v₂)) hl

/-- The selection of a row padded with least values: it lists the first 101 columns of the row's own order, rearranged among equal
    values, where the last of these is greater than the next. -/
theorem selected_order (x : Fin 100000 → EReal) (hx : x (order x ⟨101, by omega⟩) < x (order x ⟨100, by omega⟩))
    (S : Fin 100352 → EReal) (hS : ∀ c, S c = if h : c.val < 100000 then x ⟨c.val, h⟩ else ⊥)
    (v₁ : Fin 6272 → EReal) (v₂ : Fin 896 → EReal)
    (le₁ : ∀ g r, S (col g r) ≤ v₁ g) (at₁ : ∀ g, ∃ r, S (col g r) = v₁ g)
    (le₂ : ∀ s t, v₁ (grp s t) ≤ v₂ s) (at₂ : ∀ s, ∃ t, v₁ (grp s t) = v₂ s) :
    ∃ σ : Equiv.Perm (Fin 101), (∀ j, (selected S v₁ v₂ j).val = (order x ⟨(σ j).val, by omega⟩).val)
      ∧ ∀ j, x (order x ⟨(σ j).val, by omega⟩) = x (order x ⟨j.val, by omega⟩) := by
  have hval : ∀ i : Fin 100000, S (i.castLE (by omega)) = x i := fun i => (hS _).trans (dif_pos i.isLt)
  have hanti := order_antitone x
  obtain ⟨σ, h, hs⟩ := selected_rearranged S v₁ v₂ le₁ at₁ le₂ at₂ (fun j => (order x ⟨j.val, by omega⟩).castLE (by omega))
    (fun i j hij => by
      have h := Fin.mk.inj_iff.mp (order_injective x (Fin.castLE_injective _ hij))
      exact Fin.ext h)
    (fun i j hij => by
      simp only [hval]
      exact hanti (show (⟨i.val, by omega⟩ : Fin 100000) ≤ ⟨j.val, by omega⟩ from hij))
    (fun c hc j => by
      simp only [hval]
      have h2 : x (order x ⟨100, by omega⟩) ≤ x (order x ⟨j.val, by omega⟩) := hanti (Fin.le_def.mpr (by show j.val ≤ 100; omega))
      refine lt_of_le_of_lt ?_ (lt_of_lt_of_le hx h2)
      rw [hS]
      split
      · rename_i hlt
        obtain ⟨i, hi⟩ := order_surjective x ⟨c.val, hlt⟩
        rw [← hi]
        refine hanti (a := ⟨101, by omega⟩) (b := i) (Fin.le_def.mpr ?_)
        by_contra hi'
        have hlt' : i.val < 101 := not_le.mp hi'
        exact hc ⟨⟨i.val, hlt'⟩, Fin.ext ((Fin.val_castLE _ _).trans (congrArg Fin.val hi))⟩
      · exact bot_le)
  refine ⟨σ, fun j => (congrArg Fin.val (h j)).trans (Fin.val_castLE _ _), fun j => ?_⟩
  have := hs j
  simp only [hval] at this
  exact this

end Cert.Ranking

end
-- ==== Proof.HostSteps.lean ====
/- What each stretch of host operations of the idealized kernel leaves, read at an index, from any contents before it. -/
module

public import proofs.«01_k».proof.Proof.Taking
public import proofs.«01_k».proof.Proof.Selection
public import proofs.«01_k».proof.Proof.Gen.KernelIdeal.Regions
public import Idealize.ShloMosaic.Lib.StableHlo.ReadAt

@[expose] public section

set_option maxRecDepth 16384

noncomputable section

namespace Cert.KernelIdeal.Host

open Idealize.ShloMosaic hiding ix0 ix1 ix2 ix3
open Idealize.ShloMosaic.TcCoe Idealize.ShloMosaic.ValueIdx Idealize.ShloMosaic.Routing Cert.KernelIdeal Cert.KernelIdeal.Gen Cert.KernelIdeal.Facts
open Cert.Taking Cert.Ranking

variable (V : Valuation τ sig (Elt Ideal))

/-! ## Before the first call -/

/-- The padded training rows below the padding are the training rows. -/
theorem v0_at (k : Fin 100352) (h : k.val < 100000) (l : Fin 64) :
    (StableHlo.after hostOps0_1 V main_v0 : FVec Ideal S100352x64 .f32) (ix2 k l)
      = (V main_arg1 : FVec Ideal S100000x64 .f32) (ix2 (⟨k.val, h⟩ : Fin 100000) l) := by
  after_reads_at
  exact dif_pos h

/-- The transposed training rows. -/
theorem v1_at (k : Fin 64) (l : Fin 100352) :
    (StableHlo.after hostOps0_2 V main_v1 : FVec Ideal S64x100352 .f32) (ix2 k l) = (V main_v0 : FVec Ideal S100352x64 .f32) (ix2 l k) := by
  after_reads_at
  rfl

/-- The padded labels below the padding are the labels. -/
theorem v2_at (l : Fin 100352) (h : l.val < 100000) :
    (StableHlo.after hostOps0_3 V main_v2 : IVec S100352 32) (ix1 l) = (V main_arg2 : IVec S100000 32) (ix1 (⟨l.val, h⟩ : Fin 100000)) := by
  after_reads_at
  exact dif_pos h

/-! ## The candidate groups -/

/-- The chosen super-groups. -/
theorem indices_at (q : Fin 1024) (a : Fin 128) :
    (StableHlo.after hostOps1 V main_indices : IVec S1024x128 32) (ix2 q a)
      = BitVec.ofNat 32 (first (α := EReal) 128 (by omega) (fun c : Fin 896 => (V main_v3_2 : FVec Ideal S1024x896 .f32) (ix2 q c)) a).val := by
  after_reads_simp
  exact topK_positions (by omega) _ _ q a

/-- The chosen super-groups with a unit axis. -/
theorem v4_at (q : Fin 1024) (a : Fin 128) :
    (StableHlo.after hostOps1 V main_v4 : IVec S1024x128x1 32) (ix3 q a (0 : Fin 1))
      = BitVec.ofNat 32 (first (α := EReal) 128 (by omega) (fun c : Fin 896 => (V main_v3_2 : FVec Ideal S1024x896 .f32) (ix2 q c)) a).val := by
  after_reads_simp
  exact (bcLane _ _ _ _).trans (topK_positions (by omega) _ _ q a)

/-- The lane count. -/
theorem c_1_at : (StableHlo.after hostOps1 V main_c_1 : IVec S_ 32) ix0 = 128#32 := by
  after_reads_simp
  rfl

/-- The floored quotient by the lane count. -/
theorem v5_at (n : Nat) (hn : n < 2 ^ 31) (q : Fin 1024) (a : Fin 128) (hc : (V main_c_1 : IVec S_ 32) ix0 = 128#32)
    (hi : (V main_v4 : IVec S1024x128x1 32) (ix3 q a (0 : Fin 1)) = BitVec.ofNat 32 n) :
    (StableHlo.after hostOps1_1 V main_v5 : IVec S1024x128x1 32) (ix3 q a (0 : Fin 1)) = BitVec.ofNat 32 (n / 128) := by
  after_reads_simp
  simp -implicitDefEqProofs only [StableHlo.TRef.toBuf, StableHlo.TRef.ofBuf, cast_cast, cast_eq, id]
  exact pyDiv_ap _ _ _ _ hi hc hn (by norm_num) (by norm_num)

/-- The group rows times the lane count. -/
theorem v14_at (n : Nat) (q : Fin 1024) (a : Fin 128) (t : Fin 7)
    (hi : (V main_v5 : IVec S1024x128x1 32) (ix3 q a (0 : Fin 1)) = BitVec.ofNat 32 n) :
    (StableHlo.after hostOps1_2 V main_v14 : IVec S1024x128x7 32) (ix3 q a t) = BitVec.ofNat 32 ((n * 7 + t.val) * 128) := by
  after_reads_at
  refine (congrArg (fun x : BitVec 32 => (x * 7#32 + BitVec.ofNat 32 t.val) * 128#32) hi).trans ?_
  simp only [BitVec.ofNat_mul, BitVec.ofNat_add]

/-- The chosen super-groups with a unit axis, again. -/
theorem v15_at (n : Nat) (q : Fin 1024) (a : Fin 128) (hi : (V main_indices : IVec S1024x128 32) (ix2 q a) = BitVec.ofNat 32 n) :
    (StableHlo.after hostOps1_2 V main_v15 : IVec S1024x128x1 32) (ix3 q a (0 : Fin 1)) = BitVec.ofNat 32 n := by
  after_reads_simp
  exact (bcLane _ _ _ _).trans hi

/-- The lane count. -/
theorem c_4_at : (StableHlo.after hostOps1_2 V main_c_4 : IVec S_ 32) ix0 = 128#32 := by
  after_reads_simp
  rfl

/-- The remainder by the lane count. -/
theorem v16_at (n : Nat) (hn : n < 2 ^ 31) (q : Fin 1024) (a : Fin 128) (hc : (V main_c_4 : IVec S_ 32) ix0 = 128#32)
    (hi : (V main_v15 : IVec S1024x128x1 32) (ix3 q a (0 : Fin 1)) = BitVec.ofNat 32 n) :
    (StableHlo.after hostOps1_3 V main_v16 : IVec S1024x128x1 32) (ix3 q a (0 : Fin 1)) = BitVec.ofNat 32 (n % 128) := by
  after_reads_simp
  simp -implicitDefEqProofs only [StableHlo.TRef.toBuf, StableHlo.TRef.ofBuf, cast_cast, cast_eq, id]
  exact pyRem_ap _ _ _ _ hi hc hn (by norm_num) (by norm_num)

/-- The candidate groups. -/
theorem v19_at (x y : Nat) (q : Fin 1024) (a : Fin 128) (t : Fin 7) (u : Fin 896) (hu : u.val = a.val * 7 + t.val)
    (hx : (V main_v14 : IVec S1024x128x7 32) (ix3 q a t) = BitVec.ofNat 32 x)
    (hy : (V main_v16 : IVec S1024x128x1 32) (ix3 q a (0 : Fin 1)) = BitVec.ofNat 32 y) :
    (StableHlo.after hostOps1_4 V main_v19 : IVec S1024x896 32) (ix2 q u) = BitVec.ofNat 32 (x + y) := by
  after_reads_simp
  refine (cast32 (b := 128) (c := 7) _ _ rfl q a t u hu).trans ?_
  pointwise
  refine Eq.trans ?_ (BitVec.ofNat_add x y).symm
  exact congrArg₂ (fun x y : BitVec 32 => x + y) hx hy

/-- The candidate groups' maxima. -/
theorem v20_at (n : Fin 1024 → Fin 896 → Fin 6272)
    (hi : ∀ q j, (V main_v19 : IVec S1024x896 32) (ix2 q j) = BitVec.ofNat 32 (n q j).val) (q : Fin 1024) (j : Fin 896) :
    (StableHlo.after hostOps1_5 V main_v20 : FVec Ideal S1024x896 .f32) (ix2 q j) = (V main_v3_1 : FVec Ideal S1024x6272 .f32) (ix2 q (n q j)) := by
  after_reads_simp
  simp -implicitDefEqProofs only [StableHlo.TRef.toBuf, StableHlo.TRef.ofBuf, cast_cast, cast_eq]
  exact takeAlong_apply (R := 1024) (C := 896) (N := 6272) _ _ _ _ _ _ _ _ _ 6271 rfl (by norm_num) _ _ _ n hi q j

/-- The places of the kept groups. -/
theorem indices_6_at (q : Fin 1024) (a : Fin 128) :
    (StableHlo.after hostOps1_6 V main_indices_6 : IVec S1024x128 32) (ix2 q a)
      = BitVec.ofNat 32 (first (α := EReal) 128 (by omega) (fun c : Fin 896 => (V main_v20 : FVec Ideal S1024x896 .f32) (ix2 q c)) a).val := by
  after_reads_simp
  exact topK_positions (by omega) _ _ q a

/-- The kept groups. -/
theorem v21_at (n : Fin 1024 → Fin 128 → Fin 896)
    (hi : ∀ q j, (V main_indices_6 : IVec S1024x128 32) (ix2 q j) = BitVec.ofNat 32 (n q j).val) (q : Fin 1024) (j : Fin 128) :
    (StableHlo.after hostOps1_7 V main_v21 : IVec S1024x128 32) (ix2 q j) = (V main_v19 : IVec S1024x896 32) (ix2 q (n q j)) := by
  after_reads_simp
  simp -implicitDefEqProofs only [StableHlo.TRef.toBuf, StableHlo.TRef.ofBuf, cast_cast, cast_eq]
  exact takeAlong_apply (R := 1024) (C := 128) (N := 896) _ _ _ _ _ _ _ _ _ 895 rfl (by norm_num) _ _ _ n hi q j

/-! ## The candidate columns -/

/-- The kept groups with a unit axis. -/
theorem v22_at (n : Nat) (q : Fin 1024) (a : Fin 128) (hi : (V main_v21 : IVec S1024x128 32) (ix2 q a) = BitVec.ofNat 32 n) :
    (StableHlo.after hostOps1_8 V main_v22 : IVec S1024x128x1 32) (ix3 q a (0 : Fin 1)) = BitVec.ofNat 32 n := by
  after_reads_simp
  exact (bcLane _ _ _ _).trans hi

/-- The lane count. -/
theorem c_7_at : (StableHlo.after hostOps1_8 V main_c_7 : IVec S_ 32) ix0 = 128#32 := by
  after_reads_simp
  rfl

/-- The floored quotient by the lane count. -/
theorem v23_at (n : Nat) (hn : n < 2 ^ 31) (q : Fin 1024) (a : Fin 128) (hc : (V main_c_7 : IVec S_ 32) ix0 = 128#32)
    (hi : (V main_v22 : IVec S1024x128x1 32) (ix3 q a (0 : Fin 1)) = BitVec.ofNat 32 n) :
    (StableHlo.after hostOps1_9 V main_v23 : IVec S1024x128x1 32) (ix3 q a (0 : Fin 1)) = BitVec.ofNat 32 (n / 128) := by
  after_reads_simp
  simp -implicitDefEqProofs only [StableHlo.TRef.toBuf, StableHlo.TRef.ofBuf, cast_cast, cast_eq, id]
  exact pyDiv_ap _ _ _ _ hi hc hn (by norm_num) (by norm_num)

/-- The first columns of the kept groups' blocks. -/
theorem v25_at (n : Nat) (q : Fin 1024) (a : Fin 128) (hi : (V main_v23 : IVec S1024x128x1 32) (ix3 q a (0 : Fin 1)) = BitVec.ofNat 32 n) :
    (StableHlo.after hostOps1_10 V main_v25 : IVec S1024x128x1 32) (ix3 q a (0 : Fin 1)) = BitVec.ofNat 32 (n * 2048) := by
  after_reads_at
  exact (congrArg (fun x : BitVec 32 => x * 2048#32) hi).trans (BitVec.ofNat_mul n 2048).symm

/-- The kept groups with a unit axis, again. -/
theorem v26_at (n : Nat) (q : Fin 1024) (a : Fin 128) (hi : (V main_v21 : IVec S1024x128 32) (ix2 q a) = BitVec.ofNat 32 n) :
    (StableHlo.after hostOps1_10 V main_v26 : IVec S1024x128x1 32) (ix3 q a (0 : Fin 1)) = BitVec.ofNat 32 n := by
  after_reads_simp
  exact (bcLane _ _ _ _).trans hi

/-- The lane count. -/
theorem c_9_at : (StableHlo.after hostOps1_10 V main_c_9 : IVec S_ 32) ix0 = 128#32 := by
  after_reads_simp
  rfl

/-- The remainder by the lane count. -/
theorem v27_at (n : Nat) (hn : n < 2 ^ 31) (q : Fin 1024) (a : Fin 128) (hc : (V main_c_9 : IVec S_ 32) ix0 = 128#32)
    (hi : (V main_v26 : IVec S1024x128x1 32) (ix3 q a (0 : Fin 1)) = BitVec.ofNat 32 n) :
    (StableHlo.after hostOps1_11 V main_v27 : IVec S1024x128x1 32) (ix3 q a (0 : Fin 1)) = BitVec.ofNat 32 (n % 128) := by
  after_reads_simp
  simp -implicitDefEqProofs only [StableHlo.TRef.toBuf, StableHlo.TRef.ofBuf, cast_cast, cast_eq, id]
  exact pyRem_ap _ _ _ _ hi hc hn (by norm_num) (by norm_num)

/-- The candidate columns. -/
theorem v36_at (x y : Nat) (q : Fin 1024) (a : Fin 128) (r : Fin 16) (u : Fin 2048) (hu : u.val = a.val * 16 + r.val)
    (hx : (V main_v25 : IVec S1024x128x1 32) (ix3 q a (0 : Fin 1)) = BitVec.ofNat 32 x)
    (hy : (V main_v27 : IVec S1024x128x1 32) (ix3 q a (0 : Fin 1)) = BitVec.ofNat 32 y) :
    (StableHlo.after hostOps1_12 V main_v36 : IVec S1024x2048 32) (ix2 q u) = BitVec.ofNat 32 (x + y + 128 * r.val) := by
  after_reads_simp
  refine (cast32 (b := 128) (c := 16) _ _ rfl q a r u hu).trans ?_
  pointwise
  refine (congrArg₂ (fun x y : BitVec 32 => x + y + 128#32 * BitVec.ofNat 32 r.val) hx hy).trans ?_
  simp only [BitVec.ofNat_mul, BitVec.ofNat_add]

/-- The candidate columns' similarities. -/
theorem v37_at (n : Fin 1024 → Fin 2048 → Fin 100352)
    (hi : ∀ q j, (V main_v36 : IVec S1024x2048 32) (ix2 q j) = BitVec.ofNat 32 (n q j).val) (q : Fin 1024) (j : Fin 2048) :
    (StableHlo.after hostOps1_13 V main_v37 : FVec Ideal S1024x2048 .f32) (ix2 q j) = (V main_v3_0 : FVec Ideal S1024x100352 .f32) (ix2 q (n q j)) := by
  after_reads_simp
  simp -implicitDefEqProofs only [StableHlo.TRef.toBuf, StableHlo.TRef.ofBuf, cast_cast, cast_eq]
  exact takeAlong_apply (R := 1024) (C := 2048) (N := 100352) _ _ _ _ _ _ _ _ _ 100351 rfl (by norm_num) _ _ _ n hi q j

/-! ## The chosen columns -/

/-- The chosen columns' similarities. -/
theorem values_11_at (q : Fin 1024) (j : Fin 101) :
    (StableHlo.after hostOps1_14 V main_values_11 : FVec Ideal S1024x101 .f32) (ix2 q j)
      = (V main_v37 : FVec Ideal S1024x2048 .f32) (ix2 q (first (α := EReal) 101 (by omega) (fun c : Fin 2048 => (V main_v37 : FVec Ideal S1024x2048 .f32) (ix2 q c)) j)) := by
  after_reads_simp
  exact topK_values (by omega) _ _ q j

/-- The chosen columns' places. -/
theorem indices_12_at (q : Fin 1024) (j : Fin 101) :
    (StableHlo.after hostOps1_14 V main_indices_12 : IVec S1024x101 32) (ix2 q j)
      = BitVec.ofNat 32 (first (α := EReal) 101 (by omega) (fun c : Fin 2048 => (V main_v37 : FVec Ideal S1024x2048 .f32) (ix2 q c)) j).val := by
  after_reads_simp
  exact topK_positions (by omega) _ _ q j

/-- The chosen columns. -/
theorem v38_at (n : Fin 1024 → Fin 101 → Fin 2048)
    (hi : ∀ q j, (V main_indices_12 : IVec S1024x101 32) (ix2 q j) = BitVec.ofNat 32 (n q j).val) (q : Fin 1024) (j : Fin 101) :
    (StableHlo.after hostOps1_15 V main_v38 : IVec S1024x101 32) (ix2 q j) = (V main_v36 : IVec S1024x2048 32) (ix2 q (n q j)) := by
  after_reads_simp
  simp -implicitDefEqProofs only [StableHlo.TRef.toBuf, StableHlo.TRef.ofBuf, cast_cast, cast_eq]
  exact takeAlong_apply (R := 1024) (C := 101) (N := 2048) _ _ _ _ _ _ _ _ _ 2047 rfl (by norm_num) _ _ _ n hi q j

/-- The chosen columns' labels. -/
theorem v39_at (n : Fin 1024 → Fin 101 → Fin 100352)
    (hi : ∀ q j, (V main_v38 : IVec S1024x101 32) (ix2 q j) = BitVec.ofNat 32 (n q j).val) (q : Fin 1024) (j : Fin 101) :
    (StableHlo.after hostOps1_16 V main_v39 : IVec S1024x101 32) (ix2 q j) = (V main_v2 : IVec S100352 32) (ix1 (n q j)) := by
  after_reads_simp
  simp -implicitDefEqProofs only [StableHlo.TRef.toBuf, StableHlo.TRef.ofBuf, cast_cast, cast_eq]
  exact take_apply (R := 1024) (C := 101) (N := 100352) _ _ _ _ _ _ _ _ _ 100351 rfl (by norm_num) _ _ _ n hi q j

/-- The similarities handed to the vote. -/
theorem v40_at (q : Fin 1024) (j : Fin 128) (h : j.val < 101) :
    (StableHlo.after hostOps1_18 V main_v40 : FVec Ideal S1024x128 .f32) (ix2 q j) = (V main_values_11 : FVec Ideal S1024x101 .f32) (ix2 q (⟨j.val, h⟩ : Fin 101)) := by
  after_reads_at
  exact dif_pos h

/-- The labels handed to the vote. -/
theorem v41_at (q : Fin 1024) (j : Fin 128) (h : j.val < 101) :
    (StableHlo.after hostOps1_20 V main_v41 : IVec S1024x128 32) (ix2 q j) = (V main_v39 : IVec S1024x101 32) (ix2 q (⟨j.val, h⟩ : Fin 101)) := by
  after_reads_at
  exact dif_pos h

/-! ## The results -/

/-- The first result drops the votes for the classes that do not exist. -/
theorem v43_at (q : Fin 1024) (l : Fin 1000) :
    (StableHlo.after hostOps2 V main_v43 : FVec Ideal S1024x1000 .f32) (ix2 q l) = (V main_v42_0 : FVec Ideal S1024x1024 .f32) (ix2 q (l.castLE (by omega))) := by
  after_reads_at
  rfl

/-- So does the second. -/
theorem v44_at (q : Fin 1024) (l : Fin 1000) :
    (StableHlo.after hostOps2 V main_v44 : FVec Ideal S1024x1000 .f32) (ix2 q l) = (V main_v42_1 : FVec Ideal S1024x1024 .f32) (ix2 q (l.castLE (by omega))) := by
  after_reads_at
  rfl

/-- So does the third. -/
theorem v45_at (q : Fin 1024) (l : Fin 1000) :
    (StableHlo.after hostOps2 V main_v45 : FVec Ideal S1024x1000 .f32) (ix2 q l) = (V main_v42_2 : FVec Ideal S1024x1024 .f32) (ix2 q (l.castLE (by omega))) := by
  after_reads_at
  rfl

end Cert.KernelIdeal.Host

end
-- ==== Proof.Chain.lean ====
/- What the host lines between the two launches make of the similarity arrays, read at an index of the idealized program:
   the similarities and labels of the columns that the three-level selection lists. -/
module

public import proofs.«01_k».proof.Proof.HostSteps

@[expose] public section

set_option maxRecDepth 16384

noncomputable section

namespace Cert.KernelIdeal.Chain

open Idealize.ShloMosaic hiding ix0 ix1 ix2 ix3
open Idealize.ShloMosaic.TcCoe Idealize.ShloMosaic.ValueIdx Idealize.ShloMosaic.Routing Cert.KernelIdeal Cert.KernelIdeal.Gen Cert.KernelIdeal.Facts
open Cert.Taking Cert.Ranking Cert.KernelIdeal.Host

variable (m : (ℓ : Loc nD τ sig) → Buf (Elt Ideal) ℓ) (o : Outs (F := Ideal)) (c : Dev nD)

/-- Query `q`'s row of the similarity array. -/
def sims (q : Fin 1024) (k : Fin 100352) : EReal := (V5 m o c main_v3_0 : FVec Ideal S1024x100352 .f32) (ix2 q k)
/-- Query `q`'s row of the group maxima. -/
def tops (q : Fin 1024) (k : Fin 6272) : EReal := (V5 m o c main_v3_1 : FVec Ideal S1024x6272 .f32) (ix2 q k)
/-- Query `q`'s row of the super-group maxima. -/
def crowns (q : Fin 1024) (k : Fin 896) : EReal := (V5 m o c main_v3_2 : FVec Ideal S1024x896 .f32) (ix2 q k)

/-- The super-groups chosen for query `q`. -/
abbrev chosen (q : Fin 1024) : Fin 128 → Fin 896 := first 128 (by omega) (crowns m o c q)

/-! ## The candidate groups -/

/-- The chosen super-groups, with a trailing axis. -/
theorem at_v4 (q : Fin 1024) (a : Fin 128) :
    (V6 m o c main_v4 : IVec S1024x128x1 32) (ix3 q a (0 : Fin 1)) = BitVec.ofNat 32 (chosen m o c q a).val := v4_at (V5 m o c) q a

/-- The band of each chosen super-group. -/
theorem at_v5 (q : Fin 1024) (a : Fin 128) :
    (V7 m o c main_v5 : IVec S1024x128x1 32) (ix3 q a (0 : Fin 1)) = BitVec.ofNat 32 ((chosen m o c q a).val / 128) :=
  v5_at (V6 m o c) _ (by omega) q a (c_1_at _) (at_v4 m o c q a)

/-- The first group of each of the seven blocks of the chosen super-group's band. -/
theorem at_v14 (q : Fin 1024) (a : Fin 128) (t : Fin 7) :
    (V8 m o c main_v14 : IVec S1024x128x7 32) (ix3 q a t) = BitVec.ofNat 32 (((chosen m o c q a).val / 128 * 7 + t.val) * 128) :=
  v14_at (V7 m o c) _ q a t (at_v5 m o c q a)

/-- The chosen super-groups, with a trailing axis, once more. -/
theorem at_v15 (q : Fin 1024) (a : Fin 128) :
    (V8 m o c main_v15 : IVec S1024x128x1 32) (ix3 q a (0 : Fin 1)) = BitVec.ofNat 32 (chosen m o c q a).val :=
  v15_at (V7 m o c) _ q a ((congrFun (V7_of m o c main_indices (by decide)) (ix2 q a)).trans (indices_at (V5 m o c) q a))

/-- The lane of each chosen super-group. -/
theorem at_v16 (q : Fin 1024) (a : Fin 128) :
    (V9 m o c main_v16 : IVec S1024x128x1 32) (ix3 q a (0 : Fin 1)) = BitVec.ofNat 32 ((chosen m o c q a).val % 128) :=
  v16_at (V8 m o c) _ (by omega) q a (c_4_at _) (at_v15 m o c q a)

/-- The candidate groups of query `q`. -/
theorem at_v19 (q : Fin 1024) (u : Fin 896) :
    (V10 m o c main_v19 : IVec S1024x896 32) (ix2 q u) = BitVec.ofNat 32 (groups (chosen m o c q) u).val :=
  v19_at (V9 m o c) _ _ q ⟨u.val / 7, by omega⟩ ⟨u.val % 7, by omega⟩ u (by show u.val = u.val / 7 * 7 + u.val % 7; omega)
    ((congrFun (V9_of m o c main_v14 (by decide)) (ix3 q _ _)).trans (at_v14 m o c q _ _)) (at_v16 m o c q _)

/-- The group maxima are unchanged up to where the candidates' are read. -/
theorem tops_kept : V10 m o c main_v3_1 = V5 m o c main_v3_1 :=
  (V10_of m o c main_v3_1 (by decide)).trans ((V9_of m o c main_v3_1 (by decide)).trans ((V8_of m o c main_v3_1 (by decide)).trans
    ((V7_of m o c main_v3_1 (by decide)).trans (V6_of m o c main_v3_1 (by decide)))))

/-- The candidate groups' maxima. -/
theorem at_v20 (q : Fin 1024) (u : Fin 896) :
    (V11 m o c main_v20 : FVec Ideal S1024x896 .f32) (ix2 q u) = tops m o c q (groups (chosen m o c q) u) :=
  (v20_at (V10 m o c) (fun q u => groups (chosen m o c q) u) (at_v19 m o c) q u).trans (congrFun (tops_kept m o c) (ix2 q _))

/-- The places of the groups kept for query `q`. -/
abbrev keptAt (q : Fin 1024) : Fin 128 → Fin 896 :=
  first 128 (by omega) (fun u => tops m o c q (groups (first 128 (by omega) (crowns m o c q)) u))

/-- The places of the groups kept. -/
theorem at_indices_6 (q : Fin 1024) (a : Fin 128) :
    (V12 m o c main_indices_6 : IVec S1024x128 32) (ix2 q a) = BitVec.ofNat 32 (keptAt m o c q a).val :=
  (indices_6_at (V11 m o c) q a).trans
    (congrArg (fun f : Fin 896 → EReal => BitVec.ofNat 32 (first 128 (by omega) f a).val) (funext fun u => at_v20 m o c q u))

/-- The groups kept for query `q`. -/
theorem at_v21 (q : Fin 1024) (a : Fin 128) :
    (V13 m o c main_v21 : IVec S1024x128 32) (ix2 q a) = BitVec.ofNat 32 (kept (tops m o c q) (crowns m o c q) a).val :=
  (v21_at (V12 m o c) (keptAt m o c) (at_indices_6 m o c) q a).trans
    ((congrFun ((V12_of m o c main_v19 (by decide)).trans (V11_of m o c main_v19 (by decide))) (ix2 q _)).trans (at_v19 m o c q _))

/-! ## The candidate columns -/

/-- The groups kept, with a trailing axis. -/
theorem at_v22 (q : Fin 1024) (a : Fin 128) :
    (V14 m o c main_v22 : IVec S1024x128x1 32) (ix3 q a (0 : Fin 1)) = BitVec.ofNat 32 (kept (tops m o c q) (crowns m o c q) a).val :=
  v22_at (V13 m o c) _ q a (at_v21 m o c q a)

/-- The block of each group kept. -/
theorem at_v23 (q : Fin 1024) (a : Fin 128) :
    (V15 m o c main_v23 : IVec S1024x128x1 32) (ix3 q a (0 : Fin 1)) = BitVec.ofNat 32 ((kept (tops m o c q) (crowns m o c q) a).val / 128) :=
  v23_at (V14 m o c) _ (by omega) q a (c_7_at _) (at_v22 m o c q a)

/-- The first column of each kept group's block. -/
theorem at_v25 (q : Fin 1024) (a : Fin 128) :
    (V16 m o c main_v25 : IVec S1024x128x1 32) (ix3 q a (0 : Fin 1)) = BitVec.ofNat 32 ((kept (tops m o c q) (crowns m o c q) a).val / 128 * 2048) :=
  v25_at (V15 m o c) _ q a (at_v23 m o c q a)

/-- The groups kept, with a trailing axis, once more. -/
theorem at_v26 (q : Fin 1024) (a : Fin 128) :
    (V16 m o c main_v26 : IVec S1024x128x1 32) (ix3 q a (0 : Fin 1)) = BitVec.ofNat 32 (kept (tops m o c q) (crowns m o c q) a).val :=
  v26_at (V15 m o c) _ q a ((congrFun ((V15_of m o c main_v21 (by decide)).trans (V14_of m o c main_v21 (by decide))) (ix2 q a)).trans
    (at_v21 m o c q a))

/-- The lane of each group kept. -/
theorem at_v27 (q : Fin 1024) (a : Fin 128) :
    (V17 m o c main_v27 : IVec S1024x128x1 32) (ix3 q a (0 : Fin 1)) = BitVec.ofNat 32 ((kept (tops m o c q) (crowns m o c q) a).val % 128) :=
  v27_at (V16 m o c) _ (by omega) q a (c_9_at _) (at_v26 m o c q a)

/-- The candidate columns of query `q`. -/
theorem at_v36 (q : Fin 1024) (u : Fin 2048) :
    (V18 m o c main_v36 : IVec S1024x2048 32) (ix2 q u) = BitVec.ofNat 32 (columns (kept (tops m o c q) (crowns m o c q)) u).val :=
  v36_at (V17 m o c) _ _ q ⟨u.val / 16, by omega⟩ ⟨u.val % 16, by omega⟩ u (by show u.val = u.val / 16 * 16 + u.val % 16; omega)
    ((congrFun (V17_of m o c main_v25 (by decide)) (ix3 q _ _)).trans (at_v25 m o c q _)) (at_v27 m o c q _)

/-- The similarities are unchanged up to where the candidates' are read. -/
theorem sims_kept : V18 m o c main_v3_0 = V5 m o c main_v3_0 :=
  (V18_of m o c main_v3_0 (by decide)).trans ((V17_of m o c main_v3_0 (by decide)).trans ((V16_of m o c main_v3_0 (by decide)).trans
  ((V15_of m o c main_v3_0 (by decide)).trans ((V14_of m o c main_v3_0 (by decide)).trans ((V13_of m o c main_v3_0 (by decide)).trans
  ((V12_of m o c main_v3_0 (by decide)).trans ((V11_of m o c main_v3_0 (by decide)).trans ((V10_of m o c main_v3_0 (by decide)).trans
  ((V9_of m o c main_v3_0 (by decide)).trans ((V8_of m o c main_v3_0 (by decide)).trans ((V7_of m o c main_v3_0 (by decide)).trans
  (V6_of m o c main_v3_0 (by decide)))))))))))))

/-- The candidate columns' similarities. -/
theorem at_v37 (q : Fin 1024) (u : Fin 2048) :
    (V19 m o c main_v37 : FVec Ideal S1024x2048 .f32) (ix2 q u) = sims m o c q (columns (kept (tops m o c q) (crowns m o c q)) u) :=
  (v37_at (V18 m o c) (fun q u => columns (kept (tops m o c q) (crowns m o c q)) u) (at_v36 m o c) q u).trans
    (congrFun (sims_kept m o c) (ix2 q _))

/-! ## The selected columns -/

/-- The columns selected for query `q`. -/
abbrev sel (q : Fin 1024) : Fin 101 → Fin 100352 := selected (sims m o c q) (tops m o c q) (crowns m o c q)

/-- The places of the columns selected for query `q`. -/
abbrev selAt (q : Fin 1024) : Fin 101 → Fin 2048 :=
  first 101 (by omega) (fun u => sims m o c q (columns (kept (tops m o c q) (crowns m o c q)) u))

/-- The selected columns' similarities. -/
theorem at_values_11 (q : Fin 1024) (j : Fin 101) :
    (V20 m o c main_values_11 : FVec Ideal S1024x101 .f32) (ix2 q j) = sims m o c q (sel m o c q j) :=
  (values_11_at (V19 m o c) q j).trans ((at_v37 m o c q _).trans
    (congrArg (fun f : Fin 2048 → EReal => sims m o c q (columns (kept (tops m o c q) (crowns m o c q)) (first 101 (by omega) f j)))
      (funext fun u => at_v37 m o c q u)))

/-- The places of the selected columns among the candidates. -/
theorem at_indices_12 (q : Fin 1024) (j : Fin 101) :
    (V20 m o c main_indices_12 : IVec S1024x101 32) (ix2 q j) = BitVec.ofNat 32 (selAt m o c q j).val :=
  (indices_12_at (V19 m o c) q j).trans
    (congrArg (fun f : Fin 2048 → EReal => BitVec.ofNat 32 (first 101 (by omega) f j).val) (funext fun u => at_v37 m o c q u))

/-- The selected columns. -/
theorem at_v38 (q : Fin 1024) (j : Fin 101) :
    (V21 m o c main_v38 : IVec S1024x101 32) (ix2 q j) = BitVec.ofNat 32 (sel m o c q j).val :=
  (v38_at (V20 m o c) (selAt m o c) (at_indices_12 m o c) q j).trans
    ((congrFun ((V20_of m o c main_v36 (by decide)).trans (V19_of m o c main_v36 (by decide))) (ix2 q _)).trans (at_v36 m o c q _))

/-- The padded labels are unchanged up to where the selected columns' are read. -/
theorem labels_kept : V21 m o c main_v2 = V4 m c main_v2 :=
  (V21_of m o c main_v2 (by decide)).trans ((V20_of m o c main_v2 (by decide)).trans ((V19_of m o c main_v2 (by decide)).trans
  ((V18_of m o c main_v2 (by decide)).trans ((V17_of m o c main_v2 (by decide)).trans ((V16_of m o c main_v2 (by decide)).trans
  ((V15_of m o c main_v2 (by decide)).trans ((V14_of m o c main_v2 (by decide)).trans ((V13_of m o c main_v2 (by decide)).trans
  ((V12_of m o c main_v2 (by decide)).trans ((V11_of m o c main_v2 (by decide)).trans ((V10_of m o c main_v2 (by decide)).trans
  ((V9_of m o c main_v2 (by decide)).trans ((V8_of m o c main_v2 (by decide)).trans ((V7_of m o c main_v2 (by decide)).trans
  ((V6_of m o c main_v2 (by decide)).trans (V5_of m o c main_v2 (by decide)))))))))))))))))

/-- The selected columns' labels. -/
theorem at_v39 (q : Fin 1024) (j : Fin 101) :
    (V22 m o c main_v39 : IVec S1024x101 32) (ix2 q j) = (V4 m c main_v2 : IVec S100352 32) (ix1 (sel m o c q j)) :=
  (v39_at (V21 m o c) (sel m o c) (at_v38 m o c) q j).trans (congrFun (labels_kept m o c) (ix1 _))

/-! ## What the vote is handed -/

/-- The similarities handed to the vote. -/
theorem at_v40 (q : Fin 1024) (j : Fin 128) (h : j.val < 101) :
    (V26 m o c main_v40 : FVec Ideal S1024x128 .f32) (ix2 q j) = sims m o c q (sel m o c q ⟨j.val, h⟩) :=
  (congrFun ((V26_of m o c main_v40 (by decide)).trans (V25_of m o c main_v40 (by decide))) (ix2 q j)).trans
    ((v40_at (V23 m o c) q j h).trans
      ((congrFun ((V23_of m o c main_values_11 (by decide)).trans ((V22_of m o c main_values_11 (by decide)).trans
        (V21_of m o c main_values_11 (by decide)))) (ix2 q _)).trans (at_values_11 m o c q _)))

/-- The labels handed to the vote. -/
theorem at_v41 (q : Fin 1024) (j : Fin 128) (h : j.val < 101) :
    (V26 m o c main_v41 : IVec S1024x128 32) (ix2 q j) = (V4 m c main_v2 : IVec S100352 32) (ix1 (sel m o c q ⟨j.val, h⟩)) :=
  (v41_at (V25 m o c) q j h).trans
    ((congrFun ((V25_of m o c main_v39 (by decide)).trans ((V24_of m o c main_v39 (by decide)).trans
      (V23_of m o c main_v39 (by decide)))) (ix2 q _)).trans (at_v39 m o c q _))

end Cert.KernelIdeal.Chain
-- ==== Proof.Payloads.lean ====
/- What the two kernels' bodies compute from their blocks, read at an index of the idealized program. -/
module

public import proofs.«01_k».proof.Proof.Gen.KernelIdeal.Skeleton
public import Idealize.ShloMosaic.Lib.Pipeline.ValueKit
public import Idealize.ShloMosaic.Lib.WordCmp
public import proofs.«01_k».proof.Proof.Voting

@[expose] public section

set_option maxRecDepth 16384

noncomputable section

namespace Cert.KernelIdeal.Payloads

open Idealize.ShloMosaic Idealize.ShloMosaic.WordCmp Idealize.ShloMosaic.TcCoe Cert.KernelIdeal Cert.KernelIdeal.Gen Cert.KernelIdeal.Facts
open Cert.Voting

/-! ## The named constants and the neutral element of a maximum -/

/-- The mask's value is minus infinity. -/
theorem mask_eq : (Named.named κ "mask" 0xF149F2CA#32 : Ideal .f32) = (⊥ : EReal) := rfl
/-- The inverse temperature's value. -/
theorem scale_eq : (Named.named κ "inv_temp" 0x41649249#32 : Ideal .f32) = ((134217728 / 9395241 : ℝ) : EReal) := rfl
/-- The word of minus infinity is the least extended real. -/
theorem floor_eq : (Ideal.ofBits .f32 0xFF800000#32 : EReal) = ⊥ := by simp [Ideal.ofBits, Ideal.ieee]

/-- A selection by the outcome of a decidable comparison. -/
theorem select_ite {α : Type} (c : BitVec 1) (p : Prop) [Decidable p] (h : c = 1#1 ↔ p) (a b : α) :
    Scalar.select c a b = if p then a else b := if_congr h rfl rfl

/-- A similarity block: the product where the column exists, the mask past the last column. -/
theorem pay2_at (i : grid0.Coords) (v0 : FVec Ideal S1024x64 .f32) (v1 : FVec Ideal S64x2048 .f32) (q : Fin 1024) (l : Fin 2048) :
    k0_pay2 (F := Ideal) i v0 v1 (ix2 q l)
      = if 2048 * (i 0).val + l.val < 100000 then ∑ k : Fin 64, v0 (ix2 q k) * v1 (ix2 k l) else ⊥ := by
  unfold k0_pay2
  pointwise
  have hi : (i 0).val < 49 := (i 0).isLt
  refine select_ite _ _ ?_ _ _
  have e : IntOp.addi (Scalar.muli (BitVec.ofNat 32 (i 0).val) 2048#32) (BitVec.ofNat 32 l.val) = BitVec.ofNat 32 (2048 * (i 0).val + l.val) := by
    apply BitVec.eq_of_toNat_eq
    simp only [IntOp.addi, Scalar.muli, IntOp.muli, BitVec.toNat_add, BitVec.toNat_mul, BitVec.toNat_ofNat]
    omega
  show IntOp.cmpi .slt (IntOp.addi (Scalar.muli (BitVec.ofNat 32 (i 0).val) 2048#32) (BitVec.ofNat 32 l.val)) (BitVec.ofNat 32 100000) = 1#1 ↔ _
  rw [e, cmpi_slt_ofNat_eq_one_iff (w := 32) (by omega) (by norm_num)]

/-- The greatest of a family of sixteen columns that share a lane. -/
theorem pay3_at (i : grid0.Coords) (v0 : FVec Ideal S1024x64 .f32) (v1 : FVec Ideal S64x2048 .f32) (q : Fin 1024) (l : Fin 128) :
    k0_pay3 (F := Ideal) i v0 v1 (ix2 q l)
      = (Finset.univ : Finset (Fin 16)).fold max (⊥ : EReal) (fun r => k0_pay2 (F := Ideal) i v0 v1 (ix2 q (⟨r.val * 128 + l.val, by omega⟩ : Fin 2048))) := by
  unfold k0_pay3
  generalize k0_pay2 (F := Ideal) i v0 v1 = S
  pointwise
  exact congrArg (fun z : EReal => (Finset.univ : Finset (Fin 16)).fold max z _) floor_eq

/-- Folding one more block into the running maximum. -/
theorem pay1_at (a b : FVec Ideal S1024x128 .f32) (q : Fin 1024) (l : Fin 128) :
    k0_pay1 (F := Ideal) a b (ix2 q l) = max (b (ix2 q l)) (a (ix2 q l)) := by
  unfold k0_pay1
  pointwise

/-! ## The voting body -/

/-- The scaled similarities of a row of a block: places 1 to 100. -/
def scaled (v0 : FVec Ideal S8x128 .f32) (r : Fin 8) (j : Fin 100) : EReal :=
  v0 (ix2 r (⟨1 + j.val, by omega⟩ : Fin 128)) * ((134217728 / 9395241 : ℝ) : EReal)

/-- The labels of a row of a block: places 1 to 100. -/
def labels (v3 : IVec S8x128 32) (r : Fin 8) (j : Fin 100) : BitVec 32 := v3 (ix2 r (⟨1 + j.val, by omega⟩ : Fin 128))

/-- One place's vote for one class. -/
theorem vote_at (v0 : FVec Ideal S8x128 .f32) (v3 : IVec S8x128 32) (r : Fin 8) (j : Fin 100) (l : Fin 1024) :
    k1_pay1 (F := Ideal) v0 v3 (ix3 r j l) = if labels v3 r j = BitVec.ofNat 32 l.val then weight (scaled v0 r) j else 0 := by
  unfold k1_pay1
  pointwise
  simp only [scale_eq, floor_eq]
  refine select_ite _ _ ?_ _ _
  rw [cmpi_eq_eq, ofBool_decide_eq_one_iff]
  rfl

/-- The tally of the first ten places. -/
theorem ten_at (v0 : FVec Ideal S8x128 .f32) (v3 : IVec S8x128 32) (r : Fin 8) (l : Fin 1024) :
    k1_pay2 (F := Ideal) v0 v3 (ix2 r l) = tally 10 (by omega) (scaled v0 r) (labels v3 r) l.val := by
  have h := vote_at v0 v3 r
  unfold k1_pay2
  revert h
  generalize k1_pay1 (F := Ideal) v0 v3 = P
  intro h
  pointwise
  exact Finset.sum_congr rfl fun j _ => h _ _

/-- The tally of the first twenty places. -/
theorem twenty_at (v0 : FVec Ideal S8x128 .f32) (v3 : IVec S8x128 32) (r : Fin 8) (l : Fin 1024) :
    k1_pay3 (F := Ideal) v0 v3 (ix2 r l) = tally 20 (by omega) (scaled v0 r) (labels v3 r) l.val := by
  have h := vote_at v0 v3 r
  rw [tally_twenty, ← ten_at]
  unfold k1_pay3
  generalize k1_pay2 (F := Ideal) v0 v3 = A
  revert h
  generalize k1_pay1 (F := Ideal) v0 v3 = P
  intro h
  pointwise
  exact congrArg (A (ix2 r l) + ·) (Finset.sum_congr rfl fun j _ => h _ _)

/-- The tally of all hundred places. -/
theorem hundred_at (v0 : FVec Ideal S8x128 .f32) (v3 : IVec S8x128 32) (r : Fin 8) (l : Fin 1024) :
    k1_pay4 (F := Ideal) v0 v3 (ix2 r l) = tally 100 (by omega) (scaled v0 r) (labels v3 r) l.val := by
  have h := vote_at v0 v3 r
  rw [tally_hundred, ← twenty_at]
  unfold k1_pay4
  generalize k1_pay3 (F := Ideal) v0 v3 = A
  revert h
  generalize k1_pay1 (F := Ideal) v0 v3 = P
  intro h
  pointwise
  exact congrArg (A (ix2 r l) + ·) (Finset.sum_congr rfl fun j _ => h _ _)

end Cert.KernelIdeal.Payloads
-- ==== Proof.SimilarityArrays.lean ====
/- What the similarity launch leaves in its three arrays, read at an index of the idealized program: the similarities, the
   greatest of each group of sixteen columns, and the greatest of each super-group of seven groups. -/
module

public import proofs.«01_k».proof.Proof.KernelIdealCall0
public import proofs.«01_k».proof.Proof.Payloads
public import proofs.«01_k».proof.Proof.Selection

@[expose] public section

set_option maxRecDepth 16384

noncomputable section

namespace Cert.KernelIdeal.Arrays

open Idealize.ShloMosaic Idealize.ShloMosaic.TcCoe Cert.KernelIdeal Cert.KernelIdeal.Gen Cert.KernelIdeal.Facts
open Idealize.ShloMosaic.Pipeline (Dat Cfg Window)
open Cert.Ranking Cert.KernelIdeal.Launch Cert.KernelIdeal.Payloads

variable (V : (c : Dev nD) → (b : Ref sig .tc) → Buf (Elt Ideal) ((c : Thread nD τ).loc b)) (c : Dev nD)

/-! ## Where the blocks lie -/

/-- The block of window 0 at each point. -/
theorem place0_0 : ∀ t : Fin cfg0.N, win0_0.index t = ![0, 0] :=
  (by decide +kernel : ∀ t : Fin grid0.N, win0_0.index t = ![0, 0])
/-- The block of window 1 at each point. -/
theorem place0_1 : ∀ t : Fin cfg0.N, win0_1.index t = ![0, t.val] :=
  (by decide +kernel : ∀ t : Fin grid0.N, win0_1.index t = ![0, t.val])
/-- The block of window 2 at each point. -/
theorem place0_2 : ∀ t : Fin cfg0.N, win0_2.index t = ![0, t.val] :=
  (by decide +kernel : ∀ t : Fin grid0.N, win0_2.index t = ![0, t.val])
/-- The block of window 3 at each point. -/
theorem place0_3 : ∀ t : Fin cfg0.N, win0_3.index t = ![0, t.val] :=
  (by decide +kernel : ∀ t : Fin grid0.N, win0_3.index t = ![0, t.val])
/-- The block of window 4 at each point. -/
theorem place0_4 : ∀ t : Fin cfg0.N, win0_4.index t = ![0, t.val / 7] :=
  (by decide +kernel : ∀ t : Fin grid0.N, win0_4.index t = ![0, t.val / 7])
/-- The coordinate of each point. -/
theorem coord0 : ∀ t : Fin cfg0.N, (grid0.coords t 0).val = t.val :=
  (by decide +kernel : ∀ t : Fin grid0.N, (grid0.coords t 0).val = t.val)

/-! ## The similarities -/

/-- The masked similarity of query `q` and padded training row `k`, off the features and the transposed padded rows. -/
def sim (f : FVec Ideal S1024x64 .f32) (g : FVec Ideal S64x100352 .f32) (q : Fin 1024) (k : Fin 100352) : EReal :=
  if k.val < 100000 then ∑ d : Fin 64, f (ix2 q d) * g (ix2 d k) else ⊥

/-- A similarity block at point `t` holds the similarities of the columns from `2048 * t` on. -/
theorem block_sim (t : Fin cfg0.N) (q : Fin 1024) (l : Fin 2048) (k : Fin 100352) (h : k.val = 2048 * t.val + l.val) :
    k0_pay2 (F := Ideal) (grid0.coords t) (blk0 V c 0 t) (blk0 V c 1 t) (ix2 q l) = sim (V c main_arg0) (V c main_v1) q k := by
  rw [pay2_at]
  unfold sim
  rw [coord0 t, h]
  refine if_congr Iff.rfl (Finset.sum_congr rfl fun d _ => ?_) rfl
  congr 1
  · blk_ext [blk0, place0_0 t]
  · blk_ext [blk0, place0_1 t]

/-- The same at any index of the block and the array's index that it is placed at. -/
theorem block_sim_placed (t : Fin cfg0.N) (y : S1024x2048.Idx) (i : S1024x100352.Idx) (h0 : (i 0).val = (y 0).val)
    (h1 : (i 1).val = t.val * 2048 + (y 1).val) :
    k0_pay2 (F := Ideal) (grid0.coords t) (blk0 V c 0 t) (blk0 V c 1 t) y = sim (V c main_arg0) (V c main_v1) (i 0) (i 1) := by
  have e : y = ix2 (n0 := 1024) (n1 := 2048) (i 0) (y 1) := Shape.idx_ext₂ h0.symm rfl
  rw [e]
  exact block_sim V c t (i 0) (y 1) (i 1) (by rw [h1]; omega)

/-- A similarity array after the launch, from what each point leaves in its block. -/
theorem sims_of (D : Dat τ (Elt Ideal) Unit ℕ (UR sig nD τ) ℕ cfg0 c) (G : FVec Ideal S1024x100352 .f32)
    (h : ∀ (t : Fin cfg0.N) (y : S1024x2048.Idx) (i : S1024x100352.Idx), (i 0).val = (y 0).val → (i 1).val = t.val * 2048 + (y 1).val →
      (D.after 2 t : FVec Ideal S1024x2048 .f32) y = G i) : D.arrAt 2 cfg0.N = G := by
  refine D.arrAt_eq_of_covers 2 _ (by decide +kernel) fun t hf y => ?_
  blk_simp
  exact h t y _ (by blk_simp [place0_2 t]) (by blk_simp [place0_2 t])

/-- The similarity array after the launch. -/
theorem sims_at (q : Fin 1024) (k : Fin 100352) :
    ((dat0 V c).arrAt 2 cfg0.N : FVec Ideal S1024x100352 .f32) (ix2 q k) = sim (V c main_arg0) (V c main_v1) q k := by
  have h : (dat0 V c).arrAt 2 cfg0.N = (fun i => sim (V c main_arg0) (V c main_v1) (i 0) (i 1) : FVec Ideal S1024x100352 .f32) := by
    refine sims_of c _ _ fun t y i h0 h1 => ?_
    rw [after0_2]
    exact block_sim_placed V c t y i h0 h1
  exact congrFun h (ix2 q k)

/-! ## The groups' greatest -/

/-- The greatest similarity of group `g`. -/
def groupMax (f : FVec Ideal S1024x64 .f32) (g : FVec Ideal S64x100352 .f32) (q : Fin 1024) (k : Fin 6272) : EReal :=
  (Finset.univ : Finset (Fin 16)).fold max ⊥ fun r => sim f g q (col k r)

/-- The group maxima of point `t` are those of the groups from `128 * t` on. -/
theorem block_group (t : Fin cfg0.N) (q : Fin 1024) (l : Fin 128) (k : Fin 6272) (h : k.val = t.val * 128 + l.val) :
    k0_pay3 (F := Ideal) (grid0.coords t) (blk0 V c 0 t) (blk0 V c 1 t) (ix2 q l) = groupMax (V c main_arg0) (V c main_v1) q k := by
  rw [pay3_at]
  refine congrArg (fun z => (Finset.univ : Finset (Fin 16)).fold max (⊥ : EReal) z) (funext fun r => ?_)
  refine block_sim V c t q _ _ ?_
  show k.val / 128 * 2048 + k.val % 128 + 128 * r.val = 2048 * t.val + (r.val * 128 + l.val)
  omega

/-- The same at any index of the block and the array's index that it is placed at. -/
theorem block_group_placed (t : Fin cfg0.N) (y : S1024x128.Idx) (i : S1024x6272.Idx) (h0 : (i 0).val = (y 0).val)
    (h1 : (i 1).val = t.val * 128 + (y 1).val) :
    k0_pay3 (F := Ideal) (grid0.coords t) (blk0 V c 0 t) (blk0 V c 1 t) y = groupMax (V c main_arg0) (V c main_v1) (i 0) (i 1) := by
  have e : y = ix2 (n0 := 1024) (n1 := 128) (i 0) (y 1) := Shape.idx_ext₂ h0.symm rfl
  rw [e]
  exact block_group V c t (i 0) (y 1) (i 1) h1

/-- An array of group maxima after the launch, from what each point leaves in its block. -/
theorem groups_of (D : Dat τ (Elt Ideal) Unit ℕ (UR sig nD τ) ℕ cfg0 c) (G : FVec Ideal S1024x6272 .f32)
    (h : ∀ (t : Fin cfg0.N) (y : S1024x128.Idx) (i : S1024x6272.Idx), (i 0).val = (y 0).val → (i 1).val = t.val * 128 + (y 1).val →
      (D.after 3 t : FVec Ideal S1024x128 .f32) y = G i) : D.arrAt 3 cfg0.N = G := by
  refine D.arrAt_eq_of_covers 3 _ (by decide +kernel) fun t hf y => ?_
  blk_simp
  exact h t y _ (by blk_simp [place0_3 t]) (by blk_simp [place0_3 t])

/-- The array of group maxima after the launch. -/
theorem groups_at (q : Fin 1024) (k : Fin 6272) :
    ((dat0 V c).arrAt 3 cfg0.N : FVec Ideal S1024x6272 .f32) (ix2 q k) = groupMax (V c main_arg0) (V c main_v1) q k := by
  have h : (dat0 V c).arrAt 3 cfg0.N = (fun i => groupMax (V c main_arg0) (V c main_v1) (i 0) (i 1) : FVec Ideal S1024x6272 .f32) := by
    refine groups_of c _ _ fun t y i h0 h1 => ?_
    rw [after0_3]
    exact block_group_placed V c t y i h0 h1
  exact congrFun h (ix2 q k)

/-! ## The super-groups' greatest -/

/-- The greatest similarity of super-group `s`. -/
def superMax (f : FVec Ideal S1024x64 .f32) (g : FVec Ideal S64x100352 .f32) (q : Fin 1024) (s : Fin 896) : EReal :=
  (Finset.univ : Finset (Fin 7)).fold max ⊥ fun u => groupMax f g q (grp s u)

/-- The running maximum after point `n` bounds exactly the group maxima of the run of seven so far. -/
theorem running_le (q : Fin 1024) (l : Fin 128) (z : EReal) : ∀ (n : ℕ) (h : n < cfg0.N) (h49 : n < 49),
    (runMax V c n h : FVec Ideal S1024x128 .f32) (ix2 q l) ≤ z ↔
      ∀ u : Fin 7, u.val ≤ n % 7 → groupMax (V c main_arg0) (V c main_v1) q ⟨(n / 7 * 7 + u.val) * 128 + l.val, by omega⟩ ≤ z
  | n, h, h49 => by
    by_cases h7 : n % 7 = 0
    · rw [runMax_start V c ⟨n, h⟩ h7, block_group V c ⟨n, h⟩ q l ⟨n * 128 + l.val, by omega⟩ rfl]
      constructor
      · intro hz u hu
        have e : (⟨(n / 7 * 7 + u.val) * 128 + l.val, by omega⟩ : Fin 6272) = ⟨n * 128 + l.val, by omega⟩ := Fin.ext (by
          show (n / 7 * 7 + u.val) * 128 + l.val = n * 128 + l.val
          omega)
        rw [e]; exact hz
      · intro hz
        have e : (⟨n * 128 + l.val, by omega⟩ : Fin 6272) = ⟨(n / 7 * 7 + (0 : Fin 7).val) * 128 + l.val, by have : (0 : Fin 7).val = 0 := rfl; omega⟩ := Fin.ext (by
          show n * 128 + l.val = (n / 7 * 7 + 0) * 128 + l.val
          omega)
        rw [e]; exact hz 0 (Nat.zero_le _)
    · have ih := running_le q l z (n - 1) (Nat.lt_of_le_of_lt (Nat.sub_le _ _) h) (by omega)
      rw [runMax_fold V c ⟨n, h⟩ h7, pay1_at, max_le_iff, ih, block_group V c ⟨n, h⟩ q l ⟨n * 128 + l.val, by omega⟩ rfl]
      constructor
      · rintro ⟨hb, ha⟩ u hu
        by_cases hu' : u.val = n % 7
        · have e : (⟨(n / 7 * 7 + u.val) * 128 + l.val, by omega⟩ : Fin 6272) = ⟨n * 128 + l.val, by omega⟩ := Fin.ext (by
            show (n / 7 * 7 + u.val) * 128 + l.val = n * 128 + l.val
            omega)
          rw [e]; exact ha
        · have e : (⟨(n / 7 * 7 + u.val) * 128 + l.val, by omega⟩ : Fin 6272) = ⟨((n - 1) / 7 * 7 + u.val) * 128 + l.val, by omega⟩ := Fin.ext (by
            show (n / 7 * 7 + u.val) * 128 + l.val = ((n - 1) / 7 * 7 + u.val) * 128 + l.val
            omega)
          rw [e]; exact hb u (by omega)
      · intro hz
        refine ⟨fun u hu => ?_, ?_⟩
        · have e : (⟨((n - 1) / 7 * 7 + u.val) * 128 + l.val, by omega⟩ : Fin 6272) = ⟨(n / 7 * 7 + u.val) * 128 + l.val, by omega⟩ := Fin.ext (by
            show ((n - 1) / 7 * 7 + u.val) * 128 + l.val = (n / 7 * 7 + u.val) * 128 + l.val
            omega)
          rw [e]; exact hz u (by omega)
        · have e : (⟨n * 128 + l.val, by omega⟩ : Fin 6272) = ⟨(n / 7 * 7 + (⟨n % 7, Nat.mod_lt _ (by omega)⟩ : Fin 7).val) * 128 + l.val, by
              show (n / 7 * 7 + n % 7) * 128 + l.val < 6272
              omega⟩ := Fin.ext (by
            show n * 128 + l.val = (n / 7 * 7 + n % 7) * 128 + l.val
            omega)
          rw [e]; exact hz _ le_rfl
  termination_by n => n

/-- At the end of a run of seven the running maximum is the super-group's. -/
theorem block_super (t : Fin cfg0.N) (h6 : t.val % 7 = 6) (q : Fin 1024) (l : Fin 128) (s : Fin 896) (h : s.val = t.val / 7 * 128 + l.val) :
    (runMax V c t.val t.isLt : FVec Ideal S1024x128 .f32) (ix2 q l) = superMax (V c main_arg0) (V c main_v1) q s := by
  refine eq_of_forall_ge_iff fun z => ?_
  rw [running_le V c q l z t.val t.isLt t.isLt]
  unfold superMax
  rw [Finset.fold_max_le]
  have e (u : Fin 7) (hb) : (⟨(t.val / 7 * 7 + u.val) * 128 + l.val, hb⟩ : Fin 6272) = grp s u := Fin.ext (by
    show (t.val / 7 * 7 + u.val) * 128 + l.val = (s.val / 128 * 7 + u.val) * 128 + s.val % 128
    omega)
  constructor
  · exact fun hz => ⟨bot_le, fun u _ => e u _ ▸ hz u (by omega)⟩
  · exact fun hz u _ => (e u _).symm ▸ hz.2 u (Finset.mem_univ u)

/-- The same at any index of the block and the array's index that it is placed at. -/
theorem block_super_placed (t : Fin cfg0.N) (h6 : t.val % 7 = 6) (y : S1024x128.Idx) (i : S1024x896.Idx) (h0 : (i 0).val = (y 0).val)
    (h1 : (i 1).val = t.val / 7 * 128 + (y 1).val) :
    (runMax V c t.val t.isLt : FVec Ideal S1024x128 .f32) y = superMax (V c main_arg0) (V c main_v1) (i 0) (i 1) := by
  have e : y = ix2 (n0 := 1024) (n1 := 128) (i 0) (y 1) := Shape.idx_ext₂ h0.symm rfl
  rw [e]
  exact block_super V c t h6 (i 0) (y 1) (i 1) h1

/-- An array of super-group maxima after the launch, from what the last point of each run of seven leaves in its block. -/
theorem supers_of (D : Dat τ (Elt Ideal) Unit ℕ (UR sig nD τ) ℕ cfg0 c) (G : FVec Ideal S1024x896 .f32)
    (h : ∀ (t : Fin cfg0.N), t.val % 7 = 6 → ∀ (y : S1024x128.Idx) (i : S1024x896.Idx), (i 0).val = (y 0).val →
      (i 1).val = t.val / 7 * 128 + (y 1).val → (D.after 4 t : FVec Ideal S1024x128 .f32) y = G i) : D.arrAt 4 cfg0.N = G := by
  refine D.arrAt_eq_of_covers 4 _ (by decide +kernel) fun t hf y => ?_
  blk_simp
  exact h t ((flush0_4 t).mp hf) y _ (by blk_simp [place0_4 t]) (by blk_simp [place0_4 t])

/-- The array of super-group maxima after the launch. -/
theorem supers_at (q : Fin 1024) (s : Fin 896) :
    ((dat0 V c).arrAt 4 cfg0.N : FVec Ideal S1024x896 .f32) (ix2 q s) = superMax (V c main_arg0) (V c main_v1) q s := by
  have h : (dat0 V c).arrAt 4 cfg0.N = (fun i => superMax (V c main_arg0) (V c main_v1) (i 0) (i 1) : FVec Ideal S1024x896 .f32) := by
    refine supers_of c _ _ fun t h6 y i h0 h1 => ?_
    rw [after0_4]
    exact block_super_placed V c t h6 y i h0 h1
  exact congrFun h (ix2 q s)

/-! ## What the selection asks of a maximum -/

/-- A maximum over finitely many values is one of them. -/
theorem max_attained {n : ℕ} (f : Fin (n + 1) → EReal) : ∃ r, f r = (Finset.univ : Finset (Fin (n + 1))).fold max ⊥ f := by
  obtain ⟨r, -, hr⟩ := Finset.exists_mem_eq_sup (Finset.univ : Finset (Fin (n + 1))) ⟨0, Finset.mem_univ 0⟩ f
  exact ⟨r, hr.symm⟩

/-- and bounds each of them. -/
theorem le_max {n : ℕ} (f : Fin n → EReal) (r : Fin n) : f r ≤ (Finset.univ : Finset (Fin n)).fold max ⊥ f :=
  (Finset.le_fold_max _).mpr (.inr ⟨r, Finset.mem_univ r, le_rfl⟩)

end Cert.KernelIdeal.Arrays
-- ==== Proof.VoteArrays.lean ====
/- What the voting launch leaves in its three arrays, read at an index of the idealized program: each query's tally of the
   first ten, twenty and hundred places. -/
module

public import proofs.«01_k».proof.Proof.KernelIdealCall1
public import proofs.«01_k».proof.Proof.Payloads

@[expose] public section

set_option maxRecDepth 16384

noncomputable section

namespace Cert.KernelIdeal.Arrays

open Idealize.ShloMosaic Idealize.ShloMosaic.TcCoe Cert.KernelIdeal Cert.KernelIdeal.Gen Cert.KernelIdeal.Facts
open Idealize.SL Idealize.SL.RA
open Idealize.ShloMosaic.Pipeline (Dat Cfg Window)
open Cert.Voting Cert.KernelIdeal.Launch Cert.KernelIdeal.Payloads

variable (V : (c : Dev nD) → (b : Ref sig .tc) → Buf (Elt Ideal) ((c : Thread nD τ).loc b)) (c : Dev nD)

/-! ## Where the blocks lie -/

/-- The block of window 0 at each point. -/
theorem place1_0 : ∀ t : Fin cfg1.N, win1_0.index t = ![t.val, 0] :=
  (by decide +kernel : ∀ t : Fin grid1.N, win1_0.index t = ![t.val, 0])
/-- The block of window 1 at each point. -/
theorem place1_1 : ∀ t : Fin cfg1.N, win1_1.index t = ![t.val, 0] :=
  (by decide +kernel : ∀ t : Fin grid1.N, win1_1.index t = ![t.val, 0])
/-- The block of window 2 at each point. -/
theorem place1_2 : ∀ t : Fin cfg1.N, win1_2.index t = ![t.val, 0] :=
  (by decide +kernel : ∀ t : Fin grid1.N, win1_2.index t = ![t.val, 0])
/-- The block of window 3 at each point. -/
theorem place1_3 : ∀ t : Fin cfg1.N, win1_3.index t = ![t.val, 0] :=
  (by decide +kernel : ∀ t : Fin grid1.N, win1_3.index t = ![t.val, 0])
/-- The block of window 4 at each point. -/
theorem place1_4 : ∀ t : Fin cfg1.N, win1_4.index t = ![t.val, 0] :=
  (by decide +kernel : ∀ t : Fin grid1.N, win1_4.index t = ![t.val, 0])

/-! ## A query's similarities and labels -/

/-- The scaled similarities of query `q` at places 1 to 100. -/
def scaledRow (v : FVec Ideal S1024x128 .f32) (q : Fin 1024) (j : Fin 100) : EReal :=
  v (ix2 q (⟨1 + j.val, by omega⟩ : Fin 128)) * ((134217728 / 9395241 : ℝ) : EReal)

/-- The labels of query `q` at places 1 to 100. -/
def labelRow (v : IVec S1024x128 32) (q : Fin 1024) (j : Fin 100) : BitVec 32 := v (ix2 q (⟨1 + j.val, by omega⟩ : Fin 128))

/-- A block's scaled similarities are the queries'. -/
theorem scaled_block (t : Fin cfg1.N) (r : Fin 8) (q : Fin 1024) (h : q.val = t.val * 8 + r.val) :
    scaled (blk1 V c 0 t) r = scaledRow (V c main_v40) q := by
  funext j
  unfold scaled scaledRow
  refine congrArg (· * ((134217728 / 9395241 : ℝ) : EReal)) ?_
  blk_ext [blk1, place1_0 t]

/-- A block's labels are the queries'. -/
theorem labels_block (t : Fin cfg1.N) (r : Fin 8) (q : Fin 1024) (h : q.val = t.val * 8 + r.val) :
    labels (blk1 V c 1 t) r = labelRow (V c main_v41) q := by
  funext j
  unfold labels labelRow
  blk_ext [blk1, place1_1 t]

/-- The tally of query `q` for class `l` over the first `k` places. -/
def votes (k : ℕ) (hk : k ≤ 100) (v : FVec Ideal S1024x128 .f32) (w : IVec S1024x128 32) (q : Fin 1024) (l : Fin 1024) : EReal :=
  tally k hk (scaledRow v q) (labelRow w q) l.val

/-! ## The arrays -/

/-- An array of the first tally after the launch, from what each point leaves in its block. -/
theorem votes_of2 (D : Dat τ (Elt Ideal) Unit ℕ (UR sig nD τ) ℕ cfg1 c) (G : FVec Ideal S1024x1024 .f32)
    (h : ∀ (t : Fin cfg1.N) (y : S8x1024.Idx) (i : S1024x1024.Idx), (i 0).val = t.val * 8 + (y 0).val → (i 1).val = (y 1).val →
      (D.after 2 t : FVec Ideal S8x1024 .f32) y = G i) : D.arrAt 2 cfg1.N = G := by
  refine D.arrAt_eq_of_covers 2 _ (by decide +kernel) fun t hf y => ?_
  blk_simp
  exact h t y _ (by blk_simp [place1_2 t]) (by blk_simp [place1_2 t])

/-- An array of the second tally after the launch, from what each point leaves in its block. -/
theorem votes_of3 (D : Dat τ (Elt Ideal) Unit ℕ (UR sig nD τ) ℕ cfg1 c) (G : FVec Ideal S1024x1024 .f32)
    (h : ∀ (t : Fin cfg1.N) (y : S8x1024.Idx) (i : S1024x1024.Idx), (i 0).val = t.val * 8 + (y 0).val → (i 1).val = (y 1).val →
      (D.after 3 t : FVec Ideal S8x1024 .f32) y = G i) : D.arrAt 3 cfg1.N = G := by
  refine D.arrAt_eq_of_covers 3 _ (by decide +kernel) fun t hf y => ?_
  blk_simp
  exact h t y _ (by blk_simp [place1_3 t]) (by blk_simp [place1_3 t])

/-- An array of the third tally after the launch, from what each point leaves in its block. -/
theorem votes_of4 (D : Dat τ (Elt Ideal) Unit ℕ (UR sig nD τ) ℕ cfg1 c) (G : FVec Ideal S1024x1024 .f32)
    (h : ∀ (t : Fin cfg1.N) (y : S8x1024.Idx) (i : S1024x1024.Idx), (i 0).val = t.val * 8 + (y 0).val → (i 1).val = (y 1).val →
      (D.after 4 t : FVec Ideal S8x1024 .f32) y = G i) : D.arrAt 4 cfg1.N = G := by
  refine D.arrAt_eq_of_covers 4 _ (by decide +kernel) fun t hf y => ?_
  blk_simp
  exact h t y _ (by blk_simp [place1_4 t]) (by blk_simp [place1_4 t])

/-- A block's tally is the queries', whichever of the three the block holds. -/
theorem block_votes (k : ℕ) (hk : k ≤ 100) (t : Fin cfg1.N) (P : FVec Ideal S8x1024 .f32)
    (hP : ∀ (r : Fin 8) (l : Fin 1024), P (ix2 r l) = tally k hk (scaled (blk1 V c 0 t) r) (labels (blk1 V c 1 t) r) l.val)
    (y : S8x1024.Idx) (i : S1024x1024.Idx) (h0 : (i 0).val = t.val * 8 + (y 0).val) (h1 : (i 1).val = (y 1).val) :
    P y = votes k hk (V c main_v40) (V c main_v41) (i 0) (i 1) := by
  have e : y = ix2 (n0 := 8) (n1 := 1024) (y 0) (i 1) := Shape.idx_ext₂ rfl h1.symm
  refine (congrArg P e).trans ((hP (y 0) (i 1)).trans ?_)
  rw [scaled_block V c t (y 0) (i 0) h0, labels_block V c t (y 0) (i 0) h0]
  rfl

/-- The first array after the launch: the tally of ten places. -/
theorem ten_votes_at (q l : Fin 1024) :
    ((dat1 V c).arrAt 2 cfg1.N : FVec Ideal S1024x1024 .f32) (ix2 q l) = votes 10 (by omega) (V c main_v40) (V c main_v41) q l := by
  have h : (dat1 V c).arrAt 2 cfg1.N
      = (fun i => votes 10 (by omega) (V c main_v40) (V c main_v41) (i 0) (i 1) : FVec Ideal S1024x1024 .f32) := by
    refine votes_of2 c _ _ fun t y i h0 h1 => ?_
    rw [after1_2]
    exact block_votes V c 10 _ t _ (ten_at _ _) y i h0 h1
  exact congrFun h (ix2 q l)

/-- The second array after the launch: the tally of twenty places. -/
theorem twenty_votes_at (q l : Fin 1024) :
    ((dat1 V c).arrAt 3 cfg1.N : FVec Ideal S1024x1024 .f32) (ix2 q l) = votes 20 (by omega) (V c main_v40) (V c main_v41) q l := by
  have h : (dat1 V c).arrAt 3 cfg1.N
      = (fun i => votes 20 (by omega) (V c main_v40) (V c main_v41) (i 0) (i 1) : FVec Ideal S1024x1024 .f32) := by
    refine votes_of3 c _ _ fun t y i h0 h1 => ?_
    rw [after1_3]
    exact block_votes V c 20 _ t _ (twenty_at _ _) y i h0 h1
  exact congrFun h (ix2 q l)

/-- The third array after the launch: the tally of a hundred places. -/
theorem hundred_votes_at (q l : Fin 1024) :
    ((dat1 V c).arrAt 4 cfg1.N : FVec Ideal S1024x1024 .f32) (ix2 q l) = votes 100 (by omega) (V c main_v40) (V c main_v41) q l := by
  have h : (dat1 V c).arrAt 4 cfg1.N
      = (fun i => votes 100 (by omega) (V c main_v40) (V c main_v41) (i 0) (i 1) : FVec Ideal S1024x1024 .f32) := by
    refine votes_of4 c _ _ fun t y i h0 h1 => ?_
    rw [after1_4]
    exact block_votes V c 100 _ t _ (hundred_at _ _) y i h0 h1
  exact congrFun h (ix2 q l)

end Cert.KernelIdeal.Arrays
-- ==== Proof.KernelValue.lean ====
/- What the idealized kernel leaves in its three results, read at an index: the votes of the nearest training rows. -/
module

public import proofs.«01_k».proof.Proof.Neighbours
public import proofs.«01_k».proof.Proof.Chain
public import proofs.«01_k».proof.Proof.SimilarityArrays
public import proofs.«01_k».proof.Proof.VoteArrays
public import proofs.«01_k».proof.Proof.KernelIdealRun

@[expose] public section

set_option maxRecDepth 16384

noncomputable section

namespace Cert.KernelIdeal.Results

open Idealize.ShloMosaic hiding ix0 ix1 ix2 ix3
open Idealize.ShloMosaic.TcCoe Idealize.ShloMosaic.ValueIdx
open Cert.KernelIdeal Cert.KernelIdeal.Gen Cert.KernelIdeal.Facts
open Cert.Ranking Cert.Voting Cert.Neighbours Cert.KernelIdeal.Host Cert.KernelIdeal.Launch

variable (m : (ℓ : Loc nD τ sig) → Buf (Elt Ideal) ℓ) (c : Dev nD)

/-- The queries. -/
abbrev queries : FVec Ideal S1024x64 .f32 := m ((c : Thread nD τ).loc main_arg0)
/-- The training rows. -/
abbrev training : FVec Ideal S100000x64 .f32 := m ((c : Thread nD τ).loc main_arg1)
/-- The training rows' labels. -/
abbrev marks : IVec S100000 32 := m ((c : Thread nD τ).loc main_arg2)

/-! ## What the first launch is handed -/

/-- The queries are as launched. -/
theorem arg0_kept : V4 m c main_arg0 = m ((c : Thread nD τ).loc main_arg0) :=
  (V4_of m c main_arg0 (by decide)).trans ((V3_of m c main_arg0 (by decide)).trans ((V2_of m c main_arg0 (by decide)).trans
    (V1_of m c main_arg0 (by decide))))

/-- The labels are as launched. -/
theorem arg2_kept : V3 m c main_arg2 = m ((c : Thread nD τ).loc main_arg2) :=
  (V3_of m c main_arg2 (by decide)).trans ((V2_of m c main_arg2 (by decide)).trans (V1_of m c main_arg2 (by decide)))

/-- The transposed training rows, below the padding. -/
theorem columns_at (d : Fin 64) (k : Fin 100352) (h : k.val < 100000) :
    (V4 m c main_v1 : FVec Ideal S64x100352 .f32) (ix2 d k) = training m c (ix2 (⟨k.val, h⟩ : Fin 100000) d) :=
  (congrFun (V4_of m c main_v1 (by decide)) (ix2 d k)).trans ((v1_at (V2 m c) d k).trans ((v0_at (V1 m c) k h d).trans
    (congrFun (V1_of m c main_arg1 (by decide)) (ix2 (⟨k.val, h⟩ : Fin 100000) d))))

/-- The padded labels, below the padding. -/
theorem labels_at (k : Fin 100352) (h : k.val < 100000) :
    (V4 m c main_v2 : IVec S100352 32) (ix1 k) = marks m c (ix1 (⟨k.val, h⟩ : Fin 100000)) :=
  (v2_at (V3 m c) k h).trans (congrFun (arg2_kept m c) (ix1 (⟨k.val, h⟩ : Fin 100000)))

/-! ## The similarity arrays -/

/-- The similarities below the padding are those of the training rows, above it the least extended real. -/
theorem sim_row (q : Fin 1024) (k : Fin 100352) :
    Arrays.sim (V4 m c main_arg0) (V4 m c main_v1) q k
      = if h : k.val < 100000 then row (queries m c) (training m c) q ⟨k.val, h⟩ else ⊥ := by
  unfold Arrays.sim
  by_cases h : k.val < 100000
  · rw [if_pos h, dif_pos h]
    refine Finset.sum_congr rfl fun d _ => ?_
    exact congrArg₂ (· * ·) (congrFun (arg0_kept m c) (ix2 q d)) (columns_at m c d k h)
  · rw [if_neg h, dif_neg h]

/-- The first array that the first launch leaves. -/
theorem sims_eq (q : Fin 1024) : Chain.sims m (outs m) c q = Arrays.sim (V4 m c main_arg0) (V4 m c main_v1) q := funext fun k =>
  (congrFun ((read5_0 (V4 m c) _ _ _).trans (outs5_arr m c 2)) (ix2 q k)).trans (Arrays.sims_at (fun c b => V4 m c b) c q k)

/-- The second. -/
theorem tops_eq (q : Fin 1024) : Chain.tops m (outs m) c q = Arrays.groupMax (V4 m c main_arg0) (V4 m c main_v1) q := funext fun k =>
  (congrFun ((read5_1 (V4 m c) _ _ _).trans (outs5_arr m c 3)) (ix2 q k)).trans (Arrays.groups_at (fun c b => V4 m c b) c q k)

/-- The third. -/
theorem crowns_eq (q : Fin 1024) : Chain.crowns m (outs m) c q = Arrays.superMax (V4 m c main_arg0) (V4 m c main_v1) q := funext fun k =>
  (congrFun ((read5_2 (V4 m c) _ _ _).trans (outs5_arr m c 4)) (ix2 q k)).trans (Arrays.supers_at (fun c b => V4 m c b) c q k)

/-! ## The selection -/

/-- The columns selected are the training rows nearest the query, rearranged among equal similarities. -/
theorem sel_ranked (q : Fin 1024) (hx : Cuts (row (queries m c) (training m c) q)) :
    ∃ σ : Equiv.Perm (Fin 101), (∀ j, (Chain.sel m (outs m) c q j).val = (ranked (row (queries m c) (training m c) q) (σ j)).val)
      ∧ ∀ j, row (queries m c) (training m c) q (ranked (row (queries m c) (training m c) q) (σ j))
        = row (queries m c) (training m c) q (ranked (row (queries m c) (training m c) q) j) := by
  unfold Chain.sel ranked
  rw [sims_eq, tops_eq, crowns_eq]
  exact selected_order _ hx.hundred _ (sim_row m c q) _ _
    (fun g r => Arrays.le_max (fun r => Arrays.sim (V4 m c main_arg0) (V4 m c main_v1) q (col g r)) r)
    (fun g => Arrays.max_attained fun r => Arrays.sim (V4 m c main_arg0) (V4 m c main_v1) q (col g r))
    (fun s t => Arrays.le_max (fun u => Arrays.groupMax (V4 m c main_arg0) (V4 m c main_v1) q (grp s u)) t)
    (fun s => Arrays.max_attained fun u => Arrays.groupMax (V4 m c main_arg0) (V4 m c main_v1) q (grp s u))

/-- The similarity of a column that is a training row. -/
theorem sim_of (q : Fin 1024) (k : Fin 100352) (n : Fin 100000) (h : k.val = n.val) :
    Chain.sims m (outs m) c q k = row (queries m c) (training m c) q n := by
  rw [sims_eq, sim_row]
  have hlt : k.val < 100000 := h ▸ n.isLt
  exact (dif_pos hlt).trans (congrArg _ (Fin.ext h))

/-- The label of a column that is a training row. -/
theorem label_of (k : Fin 100352) (n : Fin 100000) (h : k.val = n.val) :
    (V4 m c main_v2 : IVec S100352 32) (ix1 k) = marks m c (ix1 n) := by
  have hlt : k.val < 100000 := h ▸ n.isLt
  exact (labels_at m c k hlt).trans (congrArg (fun k : Fin 100000 => marks m c (ix1 k)) (Fin.ext h))

/-- The similarities handed to the vote, where the column selected is a training row. -/
theorem handed_sim (q : Fin 1024) (j : Fin 101) (n : Fin 100000) (h : (Chain.sel m (outs m) c q j).val = n.val) (i : Fin 128) (hi : i.val = j.val) :
    (V26 m (outs m) c main_v40 : FVec Ideal S1024x128 .f32) (ix2 q i) = row (queries m c) (training m c) q n := by
  rw [Chain.at_v40 m (outs m) c q i (by omega)]
  refine sim_of m c q _ n ?_
  rw [← h]
  exact congrArg (fun a : Fin 101 => (Chain.sel m (outs m) c q a).val) (Fin.ext hi)

/-- The labels handed to the vote, where the column selected is a training row. -/
theorem handed_label (q : Fin 1024) (j : Fin 101) (n : Fin 100000) (h : (Chain.sel m (outs m) c q j).val = n.val) (i : Fin 128) (hi : i.val = j.val) :
    (V26 m (outs m) c main_v41 : IVec S1024x128 32) (ix2 q i) = marks m c (ix1 n) := by
  rw [Chain.at_v41 m (outs m) c q i (by omega)]
  refine label_of m c _ n ?_
  rw [← h]
  exact congrArg (fun a : Fin 101 => (Chain.sel m (outs m) c q a).val) (Fin.ext hi)

/-- The votes over what is handed to the second launch are the votes of the nearest training rows. -/
theorem votes_eq (q : Fin 1024) (hx : Cuts (row (queries m c) (training m c) q)) (k : ℕ) (hk : k ≤ 100)
    (hc : Cut (row (queries m c) (training m c) q) k (by omega)) (l : Fin 1000) :
    Arrays.votes k hk (V26 m (outs m) c main_v40) (V26 m (outs m) c main_v41) q (l.castLE (by omega))
      = ballot k hk (row (queries m c) (training m c) q) (marks m c) l.val := by
  obtain ⟨σ, hsel, hσ⟩ := sel_ranked m c q hx
  have h1 : Arrays.scaledRow (V26 m (outs m) c main_v40) q = warm (row (queries m c) (training m c) q) :=
    funext fun j => congrArg (· * ((134217728 / 9395241 : ℝ) : EReal)) ((handed_sim m c q ⟨1 + j.val, by omega⟩ _ (hsel _) _ rfl).trans (hσ _))
  have h2 : Arrays.labelRow (V26 m (outs m) c main_v41) q
      = fun j => marks m c (ix1 (ranked (row (queries m c) (training m c) q) (σ ⟨1 + j.val, by omega⟩))) :=
    funext fun j => handed_label m c q ⟨1 + j.val, by omega⟩ _ (hsel _) _ rfl
  unfold Arrays.votes
  rw [h1, h2]
  exact ballot_rearranged k hk _ (marks m c) l.val σ hσ (side_kept _ σ hσ 0 _ hx.skipped) (side_kept _ σ hσ k _ hc)

/-! ## The results -/

/-- The votes of the nearest ten. -/
theorem ten_at (q : Fin 1024) (hx : Cuts (row (queries m c) (training m c) q)) (l : Fin 1000) :
    (V28 m (outs m) c main_v43 : FVec Ideal S1024x1000 .f32) (ix2 q l)
      = ballot 10 (by omega) (row (queries m c) (training m c) q) (marks m c) l.val :=
  (v43_at (V27 m (outs m) c) q l).trans
    ((congrFun ((read27_0 (V26 m (outs m) c) _ _ _).trans (outs27_arr m c 2)) (ix2 q (l.castLE (by omega)))).trans
      ((Arrays.ten_votes_at (fun c b => V26 m (outs m) c b) c q (l.castLE (by omega))).trans (votes_eq m c q hx 10 (by omega) hx.ten l)))

/-- The votes of the nearest twenty. -/
theorem twenty_at (q : Fin 1024) (hx : Cuts (row (queries m c) (training m c) q)) (l : Fin 1000) :
    (V28 m (outs m) c main_v44 : FVec Ideal S1024x1000 .f32) (ix2 q l)
      = ballot 20 (by omega) (row (queries m c) (training m c) q) (marks m c) l.val :=
  (v44_at (V27 m (outs m) c) q l).trans
    ((congrFun ((read27_1 (V26 m (outs m) c) _ _ _).trans (outs27_arr m c 3)) (ix2 q (l.castLE (by omega)))).trans
      ((Arrays.twenty_votes_at (fun c b => V26 m (outs m) c b) c q (l.castLE (by omega))).trans (votes_eq m c q hx 20 (by omega) hx.twenty l)))

/-- The votes of the nearest hundred. -/
theorem hundred_at (q : Fin 1024) (hx : Cuts (row (queries m c) (training m c) q)) (l : Fin 1000) :
    (V28 m (outs m) c main_v45 : FVec Ideal S1024x1000 .f32) (ix2 q l)
      = ballot 100 (by omega) (row (queries m c) (training m c) q) (marks m c) l.val :=
  (v45_at (V27 m (outs m) c) q l).trans
    ((congrFun ((read27_2 (V26 m (outs m) c) _ _ _).trans (outs27_arr m c 4)) (ix2 q (l.castLE (by omega)))).trans
      ((Arrays.hundred_votes_at (fun c b => V26 m (outs m) c b) c q (l.castLE (by omega))).trans (votes_eq m c q hx 100 (by omega) hx.hundred l)))

end Cert.KernelIdeal.Results
-- ==== Proof.ReferenceValue.lean ====
/- What the idealized reference computes, read at an index: the votes of the nearest training rows. -/
module

public import proofs.«01_k».proof.Proof.Neighbours
public import proofs.«01_k».proof.Proof.Taking
public import proofs.«01_k».proof.Proof.Gen.ReferenceIdeal.Run
public import Idealize.ShloMosaic.Lib.IdealHost

@[expose] public section

set_option maxRecDepth 16384

noncomputable section

namespace Cert.ReferenceIdeal.Results

open Idealize.ShloMosaic hiding ix0 ix1 ix2 ix3
open Idealize.ShloMosaic.TcCoe Idealize.ShloMosaic.ValueIdx Idealize.ShloMosaic.Routing Idealize.ShloMosaic.WordCmp
open Cert.ReferenceIdeal Cert.ReferenceIdeal.Gen Cert.ReferenceIdeal.Value Cert.ReferenceIdeal.Facts
open Cert.Taking Cert.Ranking Cert.Voting Cert.Neighbours

/-! ## The reference's arrays, each over the one before -/

/-- All similarities. -/
def likeness (f : FVec Ideal S1024x64 .f32) (g : FVec Ideal S100000x64 .f32) : FVec Ideal S1024x100000 .f32 :=
  Host.dotGeneral dot_S1024x64_S64x100000_S1024x100000_1_0_0_1_n_n none f (transpose S64x100000 [1, 0] g transposes_S100000x64_S64x100000_1_0)

/-- The similarities of the neighbours. -/
def best (x : FVec Ideal S1024x100000 .f32) : FVec Ideal S1024x100 .f32 :=
  extractStridedSlice S1024x100 ![0, 1] (Host.topK S1024x101 1 (FloatOps.cmpfTotal .gt) x sliceFits_S1024x100000_S1024x101).1 slices_S1024x101_S1024x100_0_1

/-- The positions of the neighbours. -/
def places (x : FVec Ideal S1024x100000 .f32) : IVec S1024x100 32 :=
  extractStridedSlice S1024x100 ![0, 1] (Host.topK S1024x101 1 (FloatOps.cmpfTotal .gt) x sliceFits_S1024x100000_S1024x101).2 slices_S1024x101_S1024x100_0_1

/-- The labels at given positions. -/
def marks (lab : IVec S100000 32) (i : IVec S1024x100 32) : IVec S1024x100 32 :=
  select (inside bcast_S_S1024x100x1 bcast_S1_S1x1x1_2 bcast_S1x1x1_S1024x100x1_0_1_2 reducesTo_S1024x100x1_S1024x100_d2 h_S_ 99999#32
      (broadcastInDim S1024x100x1 ![0, 1] bcast_S1024x100_S1024x100x1_0_1 (wrapped bcast_S_S1024x100 100000#32 i)))
    (Host.gather gather_S100000_S1024x100x1_S1024x100_n_0_n_n_0_2_1 lab
      (broadcastInDim S1024x100x1 ![0, 1] bcast_S1024x100_S1024x100x1_0_1 (wrapped bcast_S_S1024x100 100000#32 i)))
    (broadcastInDim S1024x100 ![] bcast_S_S1024x100 (constantI S_ 32 2147483648#32))

/-- The similarities divided by the temperature. -/
def tempered (v : FVec Ideal S1024x100 .f32) : FVec Ideal S1024x100 .f32 :=
  Host.divf v (broadcastInDim S1024x100 ![] bcast_S_S1024x100 (constant S_ .f32 0x3D8F5C29#32))

/-- The exponentials taken below each row's greatest. -/
def lifted (z : FVec Ideal S1024x100 .f32) : FVec Ideal S1024x100 .f32 :=
  Host.exp (subf z (broadcastInDim S1024x100 ![0, 1] bcast_S1024x1_S1024x100_0_1 (broadcastInDim S1024x1 ![0] bcast_S1024_S1024x1_0
    (maximumf (broadcastInDim S1024 ![] bcast_S_S1024 (constant S_ .f32 0xFF800000#32))
      (Host.reduce FloatOps.maximumf z (constant S_ .f32 0xFF800000#32) reducesTo_S1024x100_S1024_d1 h_S_)))))

/-- Each row's shares of its sum. -/
def shares (e : FVec Ideal S1024x100 .f32) : FVec Ideal S1024x100 .f32 :=
  Host.divf e (broadcastInDim S1024x100 ![0, 1] bcast_S1024x1_S1024x100_0_1 (broadcastInDim S1024x1 ![0] bcast_S1024_S1024x1_0
    (Host.reduceAdd e (constant S_ .f32 0x00000000#32) reducesTo_S1024x100_S1024_d1 h_S_)))

/-- Every neighbour's vote for every class. -/
def papers (w : FVec Ideal S1024x100 .f32) (lab : IVec S1024x100 32) : FVec Ideal S1024x100x1000 .f32 :=
  mulf (uitofp .f32 (cmpi .eq
      (broadcastInDim S1024x100x1000 ![0, 1, 2] bcast_S1024x100x1_S1024x100x1000_0_1_2 (broadcastInDim S1024x100x1 ![0, 1] bcast_S1024x100_S1024x100x1_0_1 lab))
      (broadcastInDim S1024x100x1000 ![0, 1, 2] bcast_S1x1x1000_S1024x100x1000_0_1_2 (iotaInDim S1x1x1000 32 2))))
    (broadcastInDim S1024x100x1000 ![0, 1, 2] bcast_S1024x100x1_S1024x100x1000_0_1_2 (broadcastInDim S1024x100x1 ![0, 1] bcast_S1024x100_S1024x100x1_0_1 w))

/-- All the votes out of the arguments. -/
def votes (f : FVec Ideal S1024x64 .f32) (g : FVec Ideal S100000x64 .f32) (lab : IVec S100000 32) : FVec Ideal S1024x100x1000 .f32 :=
  papers (shares (lifted (tempered (best (likeness f g))))) (marks lab (places (likeness f g)))

/-! ## Each array at an index -/

/-- A similarity is the query's product with the training row. -/
theorem likeness_at (f : FVec Ideal S1024x64 .f32) (g : FVec Ideal S100000x64 .f32) (q : Fin 1024) (k : Fin 100000) :
    likeness f g (ix2 q k) = row f g q k := by
  unfold likeness row
  pointwise
  rfl

/-- A row of the similarities. -/
theorem likeness_row (f : FVec Ideal S1024x64 .f32) (g : FVec Ideal S100000x64 .f32) (q : Fin 1024) :
    (fun k => likeness f g (ix2 q k)) = row f g q := funext fun k => likeness_at f g q k

/-- The values sorted, the first one skipped. -/
theorem best_at (x : FVec Ideal S1024x100000 .f32) (q : Fin 1024) (j : Fin 100) :
    best x (ix2 q j) = x (ix2 q (near (fun k => x (ix2 q k)) j)) := by
  unfold near ranked
  have hj : 1 + j.val < 101 := by omega
  refine Eq.trans ?_ (topK_values (by omega) x sliceFits_S1024x100000_S1024x101 q (⟨1 + j.val, hj⟩ : Fin 101))
  unfold best
  rw [extractStridedSlice_apply _ _ _ _ (ix2 q (⟨1 + j.val, hj⟩ : Fin 101))]
  intro a
  match a with
  | ⟨0, _⟩ => simp
  | ⟨1, _⟩ => simp

/-- The positions sorted, the first one skipped. -/
theorem places_at (x : FVec Ideal S1024x100000 .f32) (q : Fin 1024) (j : Fin 100) :
    places x (ix2 q j) = BitVec.ofNat 32 (near (fun k => x (ix2 q k)) j).val := by
  unfold near ranked
  have hj : 1 + j.val < 101 := by omega
  refine Eq.trans ?_ (topK_positions (by omega) x sliceFits_S1024x100000_S1024x101 q (⟨1 + j.val, hj⟩ : Fin 101))
  unfold places
  rw [extractStridedSlice_apply _ _ _ _ (ix2 q (⟨1 + j.val, hj⟩ : Fin 101))]
  intro a
  match a with
  | ⟨0, _⟩ => simp
  | ⟨1, _⟩ => simp

/-- The labels taken at positions inside the array. -/
theorem marks_at (lab : IVec S100000 32) (i : IVec S1024x100 32) (n : Fin 1024 → Fin 100 → Fin 100000)
    (hi : ∀ q j, i (ix2 q j) = BitVec.ofNat 32 (n q j).val) (q : Fin 1024) (j : Fin 100) : marks lab i (ix2 q j) = lab (ix1 (n q j)) :=
  take_apply (R := 1024) (C := 100) (N := 100000) _ _ _ _ _ _ _ _ _ 99999 rfl (by norm_num) _ _ _ n hi q j

/-- The word of minus infinity is the least extended real. -/
theorem floor_eq : Ideal.ofBits .f32 0xFF800000#32 = ⊥ := by simp [Ideal.ofBits, Ideal.ieee]

/-- The temperature's value. -/
theorem temperature : Ideal.ofBits .f32 0x3D8F5C29#32 = ((9395241 / 134217728 : ℝ) : EReal) := by
  simp [Ideal.ofBits, Ideal.ieee, -EReal.coe_mul]
  norm_num

/-- A similarity over the temperature is its product with the inverse. -/
theorem tempered_at (v : FVec Ideal S1024x100 .f32) (q : Fin 1024) (j : Fin 100) :
    tempered v (ix2 q j) = v (ix2 q j) * ((134217728 / 9395241 : ℝ) : EReal) := by
  unfold tempered
  pointwise
  rw [temperature, Ideal.div_coe (by norm_num)]
  norm_num

/-- The exponential of the distance to the row's largest. -/
theorem lifted_at (z : FVec Ideal S1024x100 .f32) (q : Fin 1024) (j : Fin 100) :
    lifted z (ix2 q j) = Ideal.exp (z (ix2 q j) - (Finset.univ : Finset (Fin 100)).fold max ⊥ fun x => z (ix2 q x)) := by
  unfold lifted
  pointwise
  rw [floor_eq, max_eq_right bot_le]
  rfl

/-- The share of an entry in its row's sum. -/
theorem shares_at (e : FVec Ideal S1024x100 .f32) (q : Fin 1024) (j : Fin 100) :
    shares e (ix2 q j) = Ideal.div (e (ix2 q j)) (∑ x : Fin 100, e (ix2 q x)) := by
  unfold shares
  pointwise
  rfl

/-- A neighbour's weight, in the place of its label. -/
theorem papers_at (w : FVec Ideal S1024x100 .f32) (lab : IVec S1024x100 32) (q : Fin 1024) (j : Fin 100) (l : Fin 1000) :
    papers w lab (ix3 q j l) = if lab (ix2 q j) = BitVec.ofNat 32 l.val then w (ix2 q j) else 0 := by
  unfold papers
  pointwise
  rw [cmpi_eq_eq]
  change FloatOps.uitofp (F := Ideal) FTy.f32 (BitVec.ofBool (decide (lab (ix2 q j) = BitVec.ofNat 32 l.val))) * w (ix2 q j) = _
  by_cases h : lab (ix2 q j) = BitVec.ofNat 32 l.val
  · rw [if_pos h, decide_eq_true h]
    show ((((1#1 : BitVec 1).toNat : ℝ) : EReal)) * _ = _
    simp
  · rw [if_neg h, decide_eq_false h]
    show ((((0#1 : BitVec 1).toNat : ℝ) : EReal)) * _ = _
    simp

/-- The scaled similarities of the neighbours. -/
theorem warm_at (f : FVec Ideal S1024x64 .f32) (g : FVec Ideal S100000x64 .f32) (q : Fin 1024) (j : Fin 100) :
    tempered (best (likeness f g)) (ix2 q j) = warm (row f g q) j := by
  rw [tempered_at, best_at, likeness_row, likeness_at]
  rfl

/-- The positions of the neighbours. -/
theorem places_near (f : FVec Ideal S1024x64 .f32) (g : FVec Ideal S100000x64 .f32) (q : Fin 1024) (j : Fin 100) :
    places (likeness f g) (ix2 q j) = BitVec.ofNat 32 (near (row f g q) j).val :=
  (places_at (likeness f g) q j).trans
    (congrArg (fun x : Fin 100000 → EReal => BitVec.ofNat 32 (near x j).val) (likeness_row f g q))

/-- The labels of the neighbours. -/
theorem labels_at (f : FVec Ideal S1024x64 .f32) (g : FVec Ideal S100000x64 .f32) (lab : IVec S100000 32) (q : Fin 1024) (j : Fin 100) :
    marks lab (places (likeness f g)) (ix2 q j) = lab (ix1 (near (row f g q) j)) := by
  obtain ⟨n, hn⟩ : ∃ n : Fin 1024 → Fin 100 → Fin 100000, ∀ q j, n q j = near (row f g q) j := ⟨fun q j => near (row f g q) j, fun _ _ => rfl⟩
  rw [marks_at lab (places (likeness f g)) n (fun q j => by rw [places_near, hn]), hn]

/-- The weights of the neighbours. -/
theorem weight_at (z : FVec Ideal S1024x100 .f32) (q : Fin 1024) (j : Fin 100) :
    shares (lifted z) (ix2 q j) = weight (fun x => z (ix2 q x)) j := by
  rw [shares_at]
  simp only [lifted_at]
  rfl

/-- A vote, by the labels taken and the shares. -/
theorem votes_at_a (f : FVec Ideal S1024x64 .f32) (g : FVec Ideal S100000x64 .f32) (lab : IVec S100000 32) (q : Fin 1024) (j : Fin 100) (l : Fin 1000) :
    votes f g lab (ix3 q j l) = if marks lab (places (likeness f g)) (ix2 q j) = BitVec.ofNat 32 l.val
      then shares (lifted (tempered (best (likeness f g)))) (ix2 q j) else 0 :=
  papers_at (shares (lifted (tempered (best (likeness f g))))) (marks lab (places (likeness f g))) q j l

/-- The shares are the neighbours' weights. -/
theorem votes_at_b (f : FVec Ideal S1024x64 .f32) (g : FVec Ideal S100000x64 .f32) (q : Fin 1024) (j : Fin 100) :
    shares (lifted (tempered (best (likeness f g)))) (ix2 q j) = weight (warm (row f g q)) j :=
  (weight_at _ q j).trans (congrArg (fun s => weight s j) (funext fun x => warm_at f g q x))

/-- A vote: the neighbour's weight, in the place of its label. -/
theorem votes_at (f : FVec Ideal S1024x64 .f32) (g : FVec Ideal S100000x64 .f32) (lab : IVec S100000 32) (q : Fin 1024) (j : Fin 100) (l : Fin 1000) :
    votes f g lab (ix3 q j l) = if lab (ix1 (near (row f g q) j)) = BitVec.ofNat 32 l.val then weight (warm (row f g q)) j else 0 := by
  rw [votes_at_a, labels_at, votes_at_b]

/-! ## The results -/

variable (m : (ℓ : Loc nD τ sig) → Buf (Elt Ideal) ℓ) (c : Dev nD)

/-- The similarities of query `q` in the contents `m`. -/
abbrev rowOf (q : Fin 1024) : Fin 100000 → EReal :=
  row (m ((c.tc : Thread nD τ).loc main_arg0)) (m ((c.tc : Thread nD τ).loc main_arg1)) q

/-- The votes of the nearest ten. -/
theorem ten_at (q : Fin 1024) (l : Fin 1000) :
    (res_main_v23 m c : FVec Ideal S1024x1000 .f32) (ix2 q l)
      = ballot 10 (by omega) (rowOf m c q) (m ((c.tc : Thread nD τ).loc main_arg2)) l.val := by
  have e : res_main_v23 m c = Host.reduceAdd (extractStridedSlice S1024x10x1000 ![0, 0, 0] (votes (m ((c.tc : Thread nD τ).loc main_arg0)) (m ((c.tc : Thread nD τ).loc main_arg1)) (m ((c.tc : Thread nD τ).loc main_arg2))) slices_S1024x100x1000_S1024x10x1000_0_0_0)
    (constant S_ .f32 0x00000000#32) reducesTo_S1024x10x1000_S1024x1000_d1 h_S_ := rfl
  rw [e]
  have h := votes_at (m ((c.tc : Thread nD τ).loc main_arg0)) (m ((c.tc : Thread nD τ).loc main_arg1)) (m ((c.tc : Thread nD τ).loc main_arg2)) q
  revert h
  generalize votes (m ((c.tc : Thread nD τ).loc main_arg0)) (m ((c.tc : Thread nD τ).loc main_arg1)) (m ((c.tc : Thread nD τ).loc main_arg2)) = P
  intro h
  pointwise
  exact Finset.sum_congr rfl fun j _ => h (Fin.castLE (show 10 ≤ 100 by omega) j) l

/-- The votes of the nearest twenty. -/
theorem twenty_at (q : Fin 1024) (l : Fin 1000) :
    (res_main_v25 m c : FVec Ideal S1024x1000 .f32) (ix2 q l)
      = ballot 20 (by omega) (rowOf m c q) (m ((c.tc : Thread nD τ).loc main_arg2)) l.val := by
  have e : res_main_v25 m c = Host.reduceAdd (extractStridedSlice S1024x20x1000 ![0, 0, 0] (votes (m ((c.tc : Thread nD τ).loc main_arg0)) (m ((c.tc : Thread nD τ).loc main_arg1)) (m ((c.tc : Thread nD τ).loc main_arg2))) slices_S1024x100x1000_S1024x20x1000_0_0_0)
    (constant S_ .f32 0x00000000#32) reducesTo_S1024x20x1000_S1024x1000_d1 h_S_ := rfl
  rw [e]
  have h := votes_at (m ((c.tc : Thread nD τ).loc main_arg0)) (m ((c.tc : Thread nD τ).loc main_arg1)) (m ((c.tc : Thread nD τ).loc main_arg2)) q
  revert h
  generalize votes (m ((c.tc : Thread nD τ).loc main_arg0)) (m ((c.tc : Thread nD τ).loc main_arg1)) (m ((c.tc : Thread nD τ).loc main_arg2)) = P
  intro h
  pointwise
  exact Finset.sum_congr rfl fun j _ => h (Fin.castLE (show 20 ≤ 100 by omega) j) l

/-- The votes of the nearest hundred. -/
theorem hundred_at (q : Fin 1024) (l : Fin 1000) :
    (res_main_v26 m c : FVec Ideal S1024x1000 .f32) (ix2 q l)
      = ballot 100 (by omega) (rowOf m c q) (m ((c.tc : Thread nD τ).loc main_arg2)) l.val := by
  have e : res_main_v26 m c = Host.reduceAdd (votes (m ((c.tc : Thread nD τ).loc main_arg0)) (m ((c.tc : Thread nD τ).loc main_arg1)) (m ((c.tc : Thread nD τ).loc main_arg2)))
    (constant S_ .f32 0x00000000#32) reducesTo_S1024x100x1000_S1024x1000_d1 h_S_ := rfl
  rw [e]
  have h := votes_at (m ((c.tc : Thread nD τ).loc main_arg0)) (m ((c.tc : Thread nD τ).loc main_arg1)) (m ((c.tc : Thread nD τ).loc main_arg2)) q
  revert h
  generalize votes (m ((c.tc : Thread nD τ).loc main_arg0)) (m ((c.tc : Thread nD τ).loc main_arg1)) (m ((c.tc : Thread nD τ).loc main_arg2)) = P
  intro h
  pointwise
  exact Finset.sum_congr rfl fun j _ => h j l

end Cert.ReferenceIdeal.Results
-- ==== Proof.Agreement.lean ====
/- The idealized kernel's results and the idealized reference's agree, from memories that agree on the arguments, where no
   tie of a query's similarities lies across one of the four cuts. -/
module

public import proofs.«01_k».proof.Proof.KernelValue
public import proofs.«01_k».proof.Proof.ReferenceValue

@[expose] public section

set_option maxRecDepth 16384

noncomputable section

namespace Cert.Agreement

open Idealize.ShloMosaic hiding ix0 ix1 ix2 ix3
open Idealize.ShloMosaic.TcCoe Idealize.ShloMosaic.ValueIdx Cert.Neighbours

/-- Two results that agree at every query and class are equal. -/
theorem ext_results {x y : FVec Ideal ⟨2, ![1024, 1000]⟩ .f32} (h : ∀ (q : Fin 1024) (l : Fin 1000), x (ix2 q l) = y (ix2 q l)) : x = y :=
  funext fun i => by
    have e : i = ix2 (n0 := 1024) (n1 := 1000) (i 0) (i 1) := Shape.idx_ext₂ rfl rfl
    rw [e]
    exact h _ _

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : (m' ((c.tc : Thread ReferenceIdeal.nD ReferenceIdeal.τ).loc ReferenceIdeal.main_arg0) : FVec Ideal ⟨2, ![1024, 64]⟩ .f32)
    = m ((c.tc : Thread KernelIdeal.nD KernelIdeal.τ).loc KernelIdeal.main_arg0))
  (h1 : (m' ((c.tc : Thread ReferenceIdeal.nD ReferenceIdeal.τ).loc ReferenceIdeal.main_arg1) : FVec Ideal ⟨2, ![100000, 64]⟩ .f32)
    = m ((c.tc : Thread KernelIdeal.nD KernelIdeal.τ).loc KernelIdeal.main_arg1))
  (h2 : (m' ((c.tc : Thread ReferenceIdeal.nD ReferenceIdeal.τ).loc ReferenceIdeal.main_arg2) : IVec ⟨1, ![100000]⟩ 32)
    = m ((c.tc : Thread KernelIdeal.nD KernelIdeal.τ).loc KernelIdeal.main_arg2))
  (hx : ∀ q, Cuts (row (KernelIdeal.Results.queries m c) (KernelIdeal.Results.training m c) q))

include h0 h1 h2 in
/-- The two programs' ballots are the same. -/
theorem ballots (k : ℕ) (hk : k ≤ 100) (q : Fin 1024) (l : ℕ) :
    ballot k hk (ReferenceIdeal.Results.rowOf m' c q) (m' ((c.tc : Thread ReferenceIdeal.nD ReferenceIdeal.τ).loc ReferenceIdeal.main_arg2)) l
      = ballot k hk (row (KernelIdeal.Results.queries m c) (KernelIdeal.Results.training m c) q) (KernelIdeal.Results.marks m c) l :=
  (congrArg₂ (fun f g => ballot k hk (row f g q) (m' ((c.tc : Thread ReferenceIdeal.nD ReferenceIdeal.τ).loc ReferenceIdeal.main_arg2)) l) h0 h1).trans
    (congrArg (fun lab => ballot k hk (row (KernelIdeal.Results.queries m c) (KernelIdeal.Results.training m c) q) lab l) h2)

include h0 h1 h2 hx in
/-- The votes of the nearest ten agree. -/
theorem ten : (ReferenceIdeal.Value.res_main_v23 m' c : FVec Ideal ⟨2, ![1024, 1000]⟩ .f32)
    = KernelIdeal.Gen.V28 m (KernelIdeal.Launch.outs m) c KernelIdeal.main_v43 := ext_results fun q l =>
  (ReferenceIdeal.Results.ten_at m' c q l).trans ((ballots m m' c h0 h1 h2 _ _ q l.val).trans (KernelIdeal.Results.ten_at m c q (hx q) l).symm)

include h0 h1 h2 hx in
/-- The votes of the nearest twenty agree. -/
theorem twenty : (ReferenceIdeal.Value.res_main_v25 m' c : FVec Ideal ⟨2, ![1024, 1000]⟩ .f32)
    = KernelIdeal.Gen.V28 m (KernelIdeal.Launch.outs m) c KernelIdeal.main_v44 := ext_results fun q l =>
  (ReferenceIdeal.Results.twenty_at m' c q l).trans ((ballots m m' c h0 h1 h2 _ _ q l.val).trans (KernelIdeal.Results.twenty_at m c q (hx q) l).symm)

include h0 h1 h2 hx in
/-- The votes of the nearest hundred agree. -/
theorem hundred : (ReferenceIdeal.Value.res_main_v26 m' c : FVec Ideal ⟨2, ![1024, 1000]⟩ .f32)
    = KernelIdeal.Gen.V28 m (KernelIdeal.Launch.outs m) c KernelIdeal.main_v45 := ext_results fun q l =>
  (ReferenceIdeal.Results.hundred_at m' c q l).trans ((ballots m m' c h0 h1 h2 _ _ q l.val).trans (KernelIdeal.Results.hundred_at m c q (hx q) l).symm)

end Cert.Agreement
-- ==== Proof.lean ====
module

public import proofs.«01_k».proof.Defs
public import proofs.«01_k».proof.Proof.KernelRun
public import proofs.«01_k».proof.Proof.KernelIdealRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_no_tie
public import proofs.«01_k».proof.Proof.NoTie
public import proofs.«01_k».proof.Proof.Agreement
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Kernel

/-- The kernel as printed terminates, keeps its arguments and leaves every counter at zero. -/
theorem frameKernel : Cert.quiescent_Kernel := fun m ρ _ => Cert.Kernel.Launch.frame m ρ

/-- The idealized kernel terminates, keeps its arguments and leaves every counter at zero. -/
theorem frameKernelIdeal : Cert.quiescent_KernelIdeal := fun m ρ _ => Cert.KernelIdeal.Launch.frame m ρ

/-- The idealized reference terminates, keeps its arguments and leaves every counter at zero. -/
theorem frameReferenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two named constants of the idealized kernel: the mask's value is `⊥`, and the inverse temperature is the inverse of
    the rational that the reference divides by. -/
theorem namedConstants : Cert.preserves_Kernel_KernelIdeal :=
  ⟨IdealRules.named_const.statement Cert.KernelIdeal.κ "mask" .f32 0xF149F2CA#32 ⊥ rfl,
   IdealRules.named_const.statement Cert.KernelIdeal.κ "inv_temp" .f32 0x41649249#32 ((134217728 / 9395241 : ℝ) : EReal) rfl⟩

/-- All three results of the idealized kernel are the idealized reference's, where the precondition holds: both are the votes
    of the ten, twenty and hundred training rows next to the nearest, and both leave their arguments as launched. -/
theorem algebraic : Cert.algebraic_KernelIdeal_ReferenceIdeal_pre_no_tie := fun m ρ m' ρ' hp ha =>
  have hx (c : Dev Cert.KernelIdeal.nD) (q : Fin 1024) :
      Cert.Neighbours.Cuts (Cert.Neighbours.row (Cert.KernelIdeal.Results.queries m c) (Cert.KernelIdeal.Results.training m c) q) :=
    Cert.Pre_no_tie.cuts _ _ _ (hp c) q
  ⟨fun c => Cert.KernelIdeal.Gen.V28 m (Cert.KernelIdeal.Launch.outs m) c Cert.KernelIdeal.main_v43,
   fun c => Cert.KernelIdeal.Gen.V28 m (Cert.KernelIdeal.Launch.outs m) c Cert.KernelIdeal.main_v44,
   fun c => Cert.KernelIdeal.Gen.V28 m (Cert.KernelIdeal.Launch.outs m) c Cert.KernelIdeal.main_v45,
   (θ_run Cert.KernelIdeal.defs _ _).mono (fun r h c =>
    ⟨h.1 c _ (Cert.KernelIdeal.Launch.mem_uc Cert.KernelIdeal.main_v43 (by decide)),
     h.1 c _ (Cert.KernelIdeal.Launch.mem_uc Cert.KernelIdeal.main_v44 (by decide)),
     h.1 c _ (Cert.KernelIdeal.Launch.mem_uc Cert.KernelIdeal.main_v45 (by decide)),
     (h.1 c _ (Cert.KernelIdeal.Launch.mem_uc Cert.KernelIdeal.main_arg0 (by decide))).trans (Cert.KernelIdeal.Gen.V28_main_arg0 m _ c),
     (h.1 c _ (Cert.KernelIdeal.Launch.mem_uc Cert.KernelIdeal.main_arg1 (by decide))).trans (Cert.KernelIdeal.Gen.V28_main_arg1 m _ c),
     (h.1 c _ (Cert.KernelIdeal.Launch.mem_uc Cert.KernelIdeal.main_arg2 (by decide))).trans (Cert.KernelIdeal.Gen.V28_main_arg2 m _ c)⟩)
    (Cert.KernelIdeal.Launch.run m ρ),
   (θ_run Cert.ReferenceIdeal.defs _ _).mono (fun r h c =>
    ⟨(h c).1.trans (Cert.Agreement.ten m m' c (ha c).1 (ha c).2.1 (ha c).2.2 (hx c)),
     (h c).2.1.trans (Cert.Agreement.twenty m m' c (ha c).1 (ha c).2.1 (ha c).2.2 (hx c)),
     (h c).2.2.1.trans (Cert.Agreement.hundred m m' c (ha c).1 (ha c).2.1 (ha c).2.2 (hx c)),
     (h c).2.2.2⟩)
    (Cert.ReferenceIdeal.Value.run (F := Ideal) m' ρ')⟩

/-- The whole claim. -/
theorem claim : Cert.Claim := ⟨Cert.Kernel.Gen.facts, Cert.KernelIdeal.Gen.facts, Cert.ReferenceIdeal.Gen.facts, Cert.Pre_no_tie.Gen.facts,
  frameKernel, frameKernelIdeal, fun m ρ _ => frameKernelIdeal m ρ trivial, frameReferenceIdeal, fun m ρ _ => frameReferenceIdeal m ρ trivial,
  namedConstants, algebraic⟩

end Cert.Proof

end
